-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2 : Shape := ⟨2, ![4096, 2]⟩
abbrev S128x36 : Shape := ⟨2, ![128, 36]⟩
abbrev S128 : Shape := ⟨1, ![128]⟩
abbrev S36 : Shape := ⟨1, ![36]⟩
abbrev S_ : Shape := ⟨0, ![]⟩
abbrev S4096x1 : Shape := ⟨2, ![4096, 1]⟩
abbrev S2x4096 : Shape := ⟨2, ![2, 4096]⟩
abbrev S6x4096 : Shape := ⟨2, ![6, 4096]⟩
abbrev S8x4096 : Shape := ⟨2, ![8, 4096]⟩
abbrev S1x128 : Shape := ⟨2, ![1, 128]⟩
abbrev S128x48 : Shape := ⟨2, ![128, 48]⟩
abbrev S36x1 : Shape := ⟨2, ![36, 1]⟩
abbrev S8x1024 : Shape := ⟨2, ![8, 1024]⟩
abbrev S1024x128 : Shape := ⟨2, ![1024, 128]⟩
abbrev S64x1 : Shape := ⟨2, ![64, 1]⟩
abbrev S64x128 : Shape := ⟨2, ![64, 128]⟩
abbrev S32x1 : Shape := ⟨2, ![32, 1]⟩
abbrev S16x1 : Shape := ⟨2, ![16, 1]⟩
abbrev S32x128 : Shape := ⟨2, ![32, 128]⟩
abbrev S16x128 : Shape := ⟨2, ![16, 128]⟩
abbrev S8x128 : Shape := ⟨2, ![8, 128]⟩
abbrev S4x128 : Shape := ⟨2, ![4, 128]⟩
abbrev S2x128 : Shape := ⟨2, ![2, 128]⟩
abbrev S48x128 : Shape := ⟨2, ![48, 128]⟩
abbrev S128x128 : Shape := ⟨2, ![128, 128]⟩

abbrev nBuf : Space → Nat
  | .hbm => 30
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x2, .f32⟩
  | .hbm, ⟨3, _⟩ => ⟨S128x36, .f32⟩
  | .hbm, ⟨4, _⟩ => ⟨S128, .f32⟩
  | .hbm, ⟨5, _⟩ => ⟨S36, .i32⟩
  | .hbm, ⟨6, _⟩ => ⟨S_, .f32⟩
  | .hbm, ⟨7, _⟩ => ⟨S4096x2, .f32⟩
  | .hbm, ⟨8, _⟩ => ⟨S4096x2, .f32⟩
  | .hbm, ⟨9, _⟩ => ⟨S4096x1, .f32⟩
  | .hbm, ⟨10, _⟩ => ⟨S4096x128, .f32⟩
  | .hbm, ⟨11, _⟩ => ⟨S4096x1, .f32⟩
  | .hbm, ⟨12, _⟩ => ⟨S4096x128, .f32⟩
  | .hbm, ⟨13, _⟩ => ⟨S2x4096, .f32⟩
  | .hbm, ⟨14, _⟩ => ⟨S_, .f32⟩
  | .hbm, ⟨15, _⟩ => ⟨S6x4096, .f32⟩
  | .hbm, ⟨16, _⟩ => ⟨S8x4096, .f32⟩
  | .hbm, ⟨17, _⟩ => ⟨S1x128, .f32⟩
  | .hbm, ⟨18, _⟩ => ⟨S_, .f32⟩
  | .hbm, ⟨19, _⟩ => ⟨S128x48, .f32⟩
  | .hbm, ⟨20, _⟩ => ⟨S_, .i32⟩
  | .hbm, ⟨21, _⟩ => ⟨S36, .i32⟩
  | .hbm, ⟨22, _⟩ => ⟨S36, .i1⟩
  | .hbm, ⟨23, _⟩ => ⟨S_, .i32⟩
  | .hbm, ⟨24, _⟩ => ⟨S36, .i32⟩
  | .hbm, ⟨25, _⟩ => ⟨S36, .i32⟩
  | .hbm, ⟨26, _⟩ => ⟨S36, .i32⟩
  | .hbm, ⟨27, _⟩ => ⟨S36x1, .i32⟩
  | .hbm, ⟨28, _⟩ => ⟨S128x48, .f32⟩
  | .hbm, ⟨29, _⟩ => ⟨S4096x128, .f32⟩
  | .local _ .vmem, ⟨0, _⟩ => ⟨S4096x128, .f32⟩
  | .local _ .vmem, ⟨1, _⟩ => ⟨S4096x128, .f32⟩
  | .local _ .vmem, ⟨2, _⟩ => ⟨S8x1024, .f32⟩
  | .local _ .vmem, ⟨3, _⟩ => ⟨S8x1024, .f32⟩
  | .local _ .vmem, ⟨4, _⟩ => ⟨S128x48, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x128 : Shape := ⟨2, ![4096, 128]⟩
abbrev S4096x2 : Shape := ⟨2, ![4096, 2]⟩
abbrev S128x36 : Shape := ⟨2, ![128, 36]⟩
abbrev S128 : Shape := ⟨1, ![128]⟩
abbrev S1x4096x2 : Shape := ⟨3, ![1, 4096, 2]⟩
abbrev S4096x1x2 : Shape := ⟨3, ![4096, 1, 2]⟩
abbrev S4096x4096x2 : Shape := ⟨3, ![4096, 4096, 2]⟩
abbrev S_ : Shape := ⟨0, ![]⟩
abbrev S4096x4096 : Shape := ⟨2, ![4096, 4096]⟩
abbrev S4096x1 : Shape := ⟨2, ![4096, 1]⟩
abbrev S4096 : Shape := ⟨1, ![4096]⟩
abbrev S1x4096 : Shape := ⟨2, ![1, 4096]⟩
abbrev S4096x4096x1 : Shape := ⟨3, ![4096, 4096, 1]⟩
abbrev S4096x36 : Shape := ⟨2, ![4096, 36]⟩
abbrev S36x128 : Shape := ⟨2, ![36, 128]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x2, .f32⟩
  | .hbm, ⟨3, _⟩ => ⟨S128x36, .f32⟩
  | .hbm, ⟨4, _⟩ => ⟨S128, .f32⟩
  | .hbm, ⟨5, _⟩ => ⟨S1x4096x2, .f32⟩
  | .hbm, ⟨6, _⟩ => ⟨S4096x1x2, .f32⟩
  | .hbm, ⟨7, _⟩ => ⟨S4096x4096x2, .f32⟩
  | .hbm, ⟨8, _⟩ => ⟨S4096x4096x2, .f32⟩
  | .hbm, ⟨9, _⟩ => ⟨S4096x4096x2, .f32⟩
  | .hbm, ⟨10, _⟩ => ⟨S_, .f32⟩
  | .hbm, ⟨11, _⟩ => ⟨S4096x4096x2, .f32⟩
  | .hbm, ⟨12, _⟩ => ⟨S4096x4096x2, .f32⟩
  | .hbm, ⟨13, _⟩ => ⟨S_, .f32⟩
  | .hbm, ⟨14, _⟩ => ⟨S4096x4096x2, .f32⟩
  | .hbm, ⟨15, _⟩ => ⟨S4096x4096x2, .f32⟩
  | .hbm, ⟨16, _⟩ => ⟨S_, .f32⟩
  | .hbm, ⟨17, _⟩ => ⟨S4096x4096x2, .f32⟩
  | .hbm, ⟨18, _⟩ => ⟨S4096x4096x2, .i1⟩
  | .hbm, ⟨19, _⟩ => ⟨S_, .f32⟩
  | .hbm, ⟨20, _⟩ => ⟨S4096x4096x2, .f32⟩
  | .hbm, ⟨21, _⟩ => ⟨S4096x4096x2, .i1⟩
  | .hbm, ⟨22, _⟩ => ⟨S4096x4096x2, .i1⟩
  | .hbm, ⟨23, _⟩ => ⟨S_, .i1⟩
  | .hbm, ⟨24, _⟩ => ⟨S4096x4096, .i1⟩
  | .hbm, ⟨25, _⟩ => ⟨S4096x4096, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S4096x4096, .i1⟩
  | .hbm, ⟨32, _⟩ => ⟨S4096x1, .f32⟩
  | .hbm, ⟨33, _⟩ => ⟨S4096, .f32⟩
  | .hbm, ⟨34, _⟩ => ⟨S4096, .i1⟩
  | .hbm, ⟨35, _⟩ => ⟨S4096, .i1⟩
  | .hbm, ⟨36, _⟩ => ⟨S4096x4096, .i1⟩
  | .hbm, ⟨37, _⟩ => ⟨S4096x1, .i1⟩
  | .hbm, ⟨38, _⟩ => ⟨S4096x4096, .i1⟩
  | .hbm, ⟨39, _⟩ => ⟨S4096x4096, .i1⟩
  | .hbm, ⟨40, _⟩ => ⟨S1x4096, .i1⟩
  | .hbm, ⟨41, _⟩ => ⟨S4096x4096, .i1⟩
  | .hbm, ⟨42, _⟩ => ⟨S4096x4096, .i1⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S4096x4096x2, .f32⟩
  | .hbm, ⟨47, _⟩ => ⟨S4096x4096x2, .f32⟩
  | .hbm, ⟨48, _⟩ => ⟨S_, .f32⟩
  | .hbm, ⟨49, _⟩ => ⟨S4096x4096x2, .f32⟩
  | .hbm, ⟨50, _⟩ => ⟨S4096x4096x2, .f32⟩
  | .hbm, ⟨51, _⟩ => ⟨S4096x4096x2, .i32⟩
  | .hbm, ⟨52, _⟩ => ⟨S4096x4096x1, .i32⟩
  | .hbm, ⟨53, _⟩ => ⟨S4096x4096, .i32⟩
  | .hbm, ⟨54, _⟩ => ⟨S_, .i32⟩
  | .hbm, ⟨55, _⟩ => ⟨S4096x4096, .i32⟩
  | .hbm, ⟨56, _⟩ => ⟨S4096x4096, .i32⟩
  | .hbm, ⟨57, _⟩ => ⟨S4096x4096x1, .i32⟩
  | .hbm, ⟨58, _⟩ => ⟨S4096x4096, .i32⟩
  | .hbm, ⟨59, _⟩ => ⟨S4096x4096, .i32⟩
  | .hbm, ⟨60, _⟩ => ⟨S4096, .i32⟩
  | .hbm, ⟨61, _⟩ => ⟨S4096x1, .i32⟩
  | .hbm, ⟨62, _⟩ => ⟨S4096x4096, .i32⟩
  | .hbm, ⟨63, _⟩ => ⟨S_, .i32⟩
  | .hbm, ⟨64, _⟩ => ⟨S4096x36, .i32⟩
  | .hbm, ⟨65, _⟩ => ⟨S4096x4096, .i32⟩
  | .hbm, ⟨66, _⟩ => ⟨S_, .i32⟩
  | .hbm, ⟨67, _⟩ => ⟨S4096x4096, .i32⟩
  | .hbm, ⟨68, _⟩ => ⟨S4096x4096, .i1⟩
  | .hbm, ⟨69, _⟩ => ⟨S_, .i32⟩
  | .hbm, ⟨70, _⟩ => ⟨S4096x4096, .i32⟩
  | .hbm, ⟨71, _⟩ => ⟨S4096x4096, .i32⟩
  | .hbm, ⟨72, _⟩ => ⟨S4096x4096, .i32⟩
  | .hbm, ⟨73, _⟩ => ⟨S_, .i32⟩
  | .hbm, ⟨74, _⟩ => ⟨S4096x4096, .i32⟩
  | .hbm, ⟨75, _⟩ => ⟨S4096x4096, .i1⟩
  | .hbm, ⟨76, _⟩ => ⟨S_, .i32⟩
  | .hbm, ⟨77, _⟩ => ⟨S4096x4096, .i32⟩
  | .hbm, ⟨78, _⟩ => ⟨S4096x4096, .i32⟩
  | .hbm, ⟨79, _⟩ => ⟨S4096x4096, .i32⟩
  | .hbm, ⟨80, _⟩ => ⟨S4096x4096x1, .i32⟩
  | .hbm, ⟨81, _⟩ => ⟨S4096x4096x1, .i32⟩
  | .hbm, ⟨82, _⟩ => ⟨S4096x4096x2, .i32⟩
  | .hbm, ⟨83, _⟩ => ⟨S4096x36, .i32⟩
  | .hbm, ⟨84, _⟩ => ⟨S4096x36, .f32⟩
  | .hbm, ⟨85, _⟩ => ⟨S36x128, .f32⟩
  | .hbm, ⟨86, _⟩ => ⟨S4096x128, .f32⟩
  | .hbm, ⟨87, _⟩ => ⟨S1x128, .f32⟩
  | .hbm, ⟨88, _⟩ => ⟨S4096x128, .f32⟩
  | .hbm, ⟨89, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_c_5 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Proof.Cells.lean ====
/- Where a point lies in another point's grid of six by six cells, over the extended reals: the
   relative position, the test that it lies in the grid, the cell along one axis, and what the
   result is made of these. Nothing here speaks of a program. -/
module

public import Idealize.ShloMosaic.PureOps.Ideal
public import Idealize.ShloMosaic.PureOps.Ideal.Laws
public import Idealize.ShloMosaic.Lib.WordCmp

@[expose] public section

noncomputable section

namespace Cert.Occupancy

open Idealize.ShloMosaic

/-- The position of `a` as seen from `b` along one axis, in cells of side one half, the grid's
    corner three cells away. -/
def rel (a b : EReal) : EReal := a * 2 - b * 2 + 3

/-- Scaling the difference by the cell's side is scaling both positions. -/
theorem rel_of_div (a b : EReal) : Ideal.div (a - b) ((1 / 2 : ℝ) : EReal) + 3 = rel a b := by
  have h : ((1 / (1 / 2 : ℝ) : ℝ) : EReal) = 2 := by norm_num; rfl
  have h2 : (2 : EReal) ≠ ⊤ := EReal.coe_ne_top (2 : ℝ)
  rw [Ideal.div_coe (by norm_num), h, rel, sub_eq_add_neg, sub_eq_add_neg,
    EReal.right_distrib_of_nonneg_of_ne_top (by norm_num) h2, EReal.neg_mul]

/-- The program's word for one half. -/
theorem ofBits_half : Ideal.ofBits .f32 0x3F000000#32 = ((1 / 2 : ℝ) : EReal) := by
  simp [Ideal.ofBits, Ideal.ieee, -EReal.coe_mul]; norm_num
/-- The program's word for three. -/
theorem ofBits_three : Ideal.ofBits .f32 0x40400000#32 = 3 := by
  simp [Ideal.ofBits, Ideal.ieee, -EReal.coe_mul]; norm_num; rfl
/-- The program's word for six. -/
theorem ofBits_six : Ideal.ofBits .f32 0x40C00000#32 = 6 := by
  simp [Ideal.ofBits, Ideal.ieee, -EReal.coe_mul]; norm_num; rfl
/-- The program's word for zero. -/
theorem ofBits_zero : Ideal.ofBits .f32 0x00000000#32 = 0 := by
  simp [Ideal.ofBits, Ideal.ieee, -EReal.coe_mul]

/-- Whether a relative position lies in the grid along one axis. -/
def Inside (r : EReal) : Prop := 0 ≤ r ∧ r < 6

/-- The cell along one axis: the position clipped to `[0, 5]`, its fraction dropped. -/
def cell (r : EReal) : ℕ := (Ideal.fptosi 32 (min 5 (max 0 r))).toNat

/-- A real in `[0, 6)` as a word is its integer part. -/
theorem fptosi_coe {x : ℝ} (h0 : 0 ≤ x) (h6 : x < 6) :
    ∃ n : ℕ, n < 6 ∧ (n : ℤ) = ⌊x⌋ ∧ Ideal.fptosi 32 (x : EReal) = BitVec.ofNat 32 n := by
  have hf0 : 0 ≤ ⌊x⌋ := Int.floor_nonneg.2 h0
  have hf6 : ⌊x⌋ < 6 := Int.floor_lt.2 (by exact_mod_cast h6)
  refine ⟨⌊x⌋.toNat, by omega, by omega, ?_⟩
  have hn : ⌊x⌋ = ((⌊x⌋.toNat : ℕ) : ℤ) := by omega
  unfold Ideal.fptosi
  rw [Ideal.toIntClamped_coe, if_pos h0]
  rw [show max (-((2 ^ (32 - 1) : ℕ) : ℤ)) (min (((2 ^ (32 - 1) : ℕ) : ℤ) - 1) ⌊x⌋) = ⌊x⌋ by
    norm_num; omega]
  conv_lhs => rw [hn]
  exact BitVec.ofInt_natCast ..

/-- A position clipped to `[0, 5]` is a real. -/
theorem clip_coe (r : EReal) : ∃ x : ℝ, 0 ≤ x ∧ x ≤ 5 ∧ min 5 (max 0 r) = (x : EReal) := by
  have hlo : (0 : EReal) ≤ min 5 (max 0 r) := le_min (by norm_num) (le_max_left _ _)
  have hhi : min 5 (max 0 r) ≤ (5 : EReal) := min_le_left _ _
  have hb : min 5 (max 0 r) ≠ ⊥ := fun h => by
    rw [h] at hlo; exact absurd hlo (by simp)
  have ht : min 5 (max 0 r) ≠ ⊤ := fun h => by
    rw [h] at hhi; exact absurd (top_le_iff.1 hhi) (EReal.coe_ne_top (5 : ℝ))
  refine ⟨(min 5 (max 0 r)).toReal, ?_, ?_, (EReal.coe_toReal ht hb).symm⟩
  · rw [← EReal.coe_le_coe_iff, EReal.coe_toReal ht hb]; exact hlo
  · rw [← EReal.coe_le_coe_iff, EReal.coe_toReal ht hb]; exact hhi

/-- The clipped position's word is the cell, one of six. -/
theorem fptosi_clip (r : EReal) : Ideal.fptosi 32 (min 5 (max 0 r)) = BitVec.ofNat 32 (cell r) := by
  rw [cell, BitVec.ofNat_toNat, BitVec.setWidth_eq]

/-- A cell's number along an axis is one of the six. -/
theorem cell_lt (r : EReal) : cell r < 6 := by
  obtain ⟨x, h0, h5, h⟩ := clip_coe r
  obtain ⟨n, hn, -, e⟩ := fptosi_coe h0 (lt_of_le_of_lt h5 (by norm_num))
  rw [cell, h, e, BitVec.toNat_ofNat, Nat.mod_eq_of_lt (by omega)]
  exact hn

/-- Inside the grid the clipping changes no cell. -/
theorem fptosi_inside {r : EReal} (h : Inside r) : Ideal.fptosi 32 r = BitVec.ofNat 32 (cell r) := by
  obtain ⟨h0, h6⟩ := h
  have hb : r ≠ ⊥ := fun h => by rw [h] at h0; exact absurd h0 (by simp)
  have ht : r ≠ ⊤ := fun h => by rw [h] at h6; exact absurd h6 (by simp)
  lift r to ℝ using ⟨ht, hb⟩
  have h0' : 0 ≤ r := by exact_mod_cast h0
  have h6' : r < 6 := EReal.coe_lt_coe_iff.1 h6
  rw [← fptosi_clip]
  have hc : min (5 : EReal) (max 0 (r : EReal)) = ((min 5 r : ℝ) : EReal) := by
    rw [max_eq_right h0]
    exact (EReal.coe_strictMono.monotone.map_min (a := (5 : ℝ)) (b := r)).symm
  rw [hc]
  obtain ⟨n, hn, en, e⟩ := fptosi_coe h0' h6'
  obtain ⟨k, hk, ek, e'⟩ := fptosi_coe (x := min 5 r) (le_min (by norm_num) h0') (lt_of_le_of_lt (min_le_right _ _) h6')
  rw [e, e']
  have : ⌊min 5 r⌋ = ⌊r⌋ := by
    rcases le_total r 5 with h | h
    · rw [min_eq_right h]
    · rw [min_eq_left h]
      have : ⌊r⌋ = 5 := Int.floor_eq_iff.2 ⟨by exact_mod_cast h, by norm_num; linarith⟩
      rw [this]; norm_num
  congr 1
  omega

/-- Point `j` falls into cell `(p, q)` of point `i`'s grid. -/
def Falls (x : Fin 4096 → Fin 2 → EReal) (i j : Fin 4096) (p q : ℕ) : Prop :=
  i ≠ j ∧ (∀ a, Inside (rel (x j a) (x i a))) ∧ cell (rel (x j 0) (x i 0)) = p ∧ cell (rel (x j 1) (x i 1)) = q

open Classical in
/-- One where some point falls into cell `(p, q)` of point `i`'s grid, and zero elsewhere. -/
def occ (x : Fin 4096 → Fin 2 → EReal) (i : Fin 4096) (p q : ℕ) : EReal :=
  if ∃ j, Falls x i j p q then 1 else 0

/-- The result: the occupied cells' weights and the offset, summed. -/
def result (x : Fin 4096 → Fin 2 → EReal) (w : Fin 128 → Fin 36 → EReal) (b : Fin 128 → EReal) (i : Fin 4096) (h : Fin 128) : EReal :=
  (∑ k : Fin 36, occ x i (k.val / 6) (k.val % 6) * w h k) + b h

end Cert.Occupancy

end
-- ==== Proof.Reference.lean ====
/- The reference program's result read at an index over the extended reals: the sum over the grid's
   cells of `Cells.lean`. -/
module

public import proofs.«01_k».proof.Proof.Cells
public import proofs.«01_k».proof.Proof.Gen.ReferenceIdeal.Read
public import Idealize.ShloMosaic.Lib.Routing.OpsPair
public import Idealize.ShloMosaic.Lib.Routing.BitFacts

@[expose] public section

set_option maxRecDepth 16384

noncomputable section

namespace Cert.Occupancy.Ref

open Cert.ReferenceIdeal Cert.ReferenceIdeal.Gen Cert.ReferenceIdeal.Read Idealize.ShloMosaic Idealize.ShloMosaic.ValueIdx

/-- The points, by point and axis. -/
abbrev pts (x : FVec Ideal S4096x2 .f32) : Fin 4096 → Fin 2 → EReal := fun i a => x (ix2 i a)

variable (x : FVec Ideal S4096x2 .f32) (i j : Fin 4096) (a : Fin 2)

/-- Stage 8 is the relative position of point `j` as seen from point `i`. -/
theorem rel_at : val_main_v8 (F := Ideal) x (ix3 i j a) = rel (pts x j a) (pts x i a) := by
  have hj : idx_main_v0 (idx_main_v2 (ix3 i j a)) = ix2 j a := funext fun d => match d with | ⟨0, _⟩ => rfl | ⟨1, _⟩ => rfl
  have hi : idx_main_v1 (idx_main_v3 (ix3 i j a)) = ix2 i a := funext fun d => match d with | ⟨0, _⟩ => rfl | ⟨1, _⟩ => rfl
  rw [val_main_v8_apply, val_main_v6_apply, val_main_v7_apply, val_main_v5_apply, val_main_v4_apply, val_main_v2_apply,
    val_main_v3_apply, val_main_v0_apply, val_main_v1_apply, val_main_cst_apply, val_main_cst_0_apply, hi, hj]
  show Ideal.div (x (ix2 j a) - x (ix2 i a)) (Ideal.ofBits .f32 0x3F000000#32) + Ideal.ofBits .f32 0x40400000#32 = _
  rw [ofBits_half, ofBits_three, rel_of_div]

open Classical in
/-- Stage 13 says whether it lies in the grid along one axis. -/
theorem inside_at : val_main_v13 (F := Ideal) x (ix3 i j a) = BitVec.ofBool (decide (Inside (rel (pts x j a) (pts x i a)))) := by
  rw [val_main_v13_apply, val_main_v10_apply, val_main_v12_apply, val_main_v9_apply, val_main_v11_apply,
    val_main_cst_1_apply, val_main_cst_2_apply, rel_at]
  show IntOp.andi (BitVec.ofBool (decide (Ideal.ofBits .f32 0x00000000#32 ≤ rel (pts x j a) (pts x i a))))
    (BitVec.ofBool (decide (rel (pts x j a) (pts x i a) < Ideal.ofBits .f32 0x40C00000#32))) = _
  rw [ofBits_zero, ofBits_six, WordCmp.andi_ofBool, Inside, Bool.decide_and]

open Classical in
/-- Stage 14 says whether it lies in the grid along both. -/
theorem inside_all : val_main_v14 (F := Ideal) x (ix2 i j) = BitVec.ofBool (decide (∀ a, Inside (rel (pts x j a) (pts x i a)))) := by
  have hr : S4096x4096x2.Reduces [2] S4096x4096 := by decide
  have hl : ∀ k : Fin 2, hr.lift (ix2 i j) k = ix3 i j k := fun k => funext fun d => match d with
    | ⟨0, _⟩ => rfl | ⟨1, _⟩ => rfl | ⟨2, _⟩ => rfl
  unfold val_main_v14
  rw [Host.reduce_eq_fold_single IntOp.andi _ _ _ hr]
  show Finset.fold IntOp.andi 1#1 (fun k : Fin 2 => val_main_v13 (F := Ideal) x (hr.lift (ix2 i j) k)) (Finset.univ : Finset (Fin 2)) = _
  rw [show (Finset.univ : Finset (Fin 2)) = {0, 1} from rfl, Finset.fold_insert (by decide), Finset.fold_singleton]
  rw [hl, hl, inside_at, inside_at, show (1#1 : BitVec 1) = BitVec.ofBool true from rfl, WordCmp.andi_ofBool, WordCmp.andi_ofBool]
  congr 1
  rw [Bool.eq_iff_iff]
  simp [Fin.forall_fin_two]

open Classical in
/-- Stage 31, the mask: the point lies in the grid and is another one. (No value differs from itself.) -/
theorem mask_at : val_main_v31 (F := Ideal) x (ix2 i j) = BitVec.ofBool (decide (i ≠ j ∧ ∀ a, Inside (rel (pts x j a) (pts x i a)))) := by
  have hn : ∀ k, val_main_v24 (F := Ideal) x k = 1#1 := fun k => by
    rw [val_main_v24_apply, val_main_v23_apply]
    show ~~~(BitVec.ofBool (decide (val_main_v22 (F := Ideal) x k ≠ val_main_v22 (F := Ideal) x k))) = _
    simp
  have he : val_main_v20 (F := Ideal) (ix2 i j) = BitVec.ofBool (decide (i ≠ j)) := by
    rw [val_main_v20_apply, val_main_v19_apply, val_main_v18_apply, val_main_v15_apply, val_main_v16_apply, val_main_v17_apply, val_main_c_3_apply]
    show ~~~(IntOp.cmpi .eq (BitVec.ofNat 32 i.val + 0#32) (BitVec.ofNat 32 j.val)) = _
    rw [BitVec.add_zero, WordCmp.cmpi_eq_ofNat (by omega) (by omega), decide_not]
    by_cases h : i = j
    · subst h; simp
    · have h' : i.val ≠ j.val := fun e => h (Fin.ext e)
      simp [h, h']
  rw [val_main_v31_apply, val_main_v28_apply, val_main_v25_apply, val_main_v27_apply, val_main_v26_apply, val_main_v30_apply,
    val_main_v29_apply, hn, hn, inside_all, he, show (1#1 : BitVec 1) = BitVec.ofBool true from rfl, WordCmp.andi_ofBool, WordCmp.andi_ofBool,
    WordCmp.andi_ofBool]
  congr 1
  rw [Bool.eq_iff_iff]
  simp [and_comm]

/-- Stage 33 is the cell along one axis. -/
theorem cell_at : val_main_v33 (F := Ideal) x (ix3 i j a) = BitVec.ofNat 32 (cell (rel (pts x j a) (pts x i a))) := by
  rw [val_main_v33_apply, val_main_v32_apply, val_main_call0_v4_apply, val_main_call0_v3_apply, val_main_call0_v2_apply,
    val_main_call0_v1_apply, val_main_call0_v0_apply, val_main_c_4_apply, val_main_c_5_apply, rel_at, ← fptosi_clip]
  show Ideal.fptosi 32 (min ((((5#32 : BitVec 32).toInt : ℝ)) : EReal) (max ((((0#32 : BitVec 32).toInt : ℝ)) : EReal) _)) = _
  have h5 : ((((5#32 : BitVec 32).toInt : ℝ)) : EReal) = 5 := by
    rw [show (5#32 : BitVec 32).toInt = 5 from by decide]; norm_num; rfl
  have h0 : ((((0#32 : BitVec 32).toInt : ℝ)) : EReal) = 0 := by
    rw [show (0#32 : BitVec 32).toInt = 0 from by decide]; norm_num
  rw [h5, h0]

/-- The number of the cell that point `j` is put into as seen from point `i`. -/
def number (x : FVec Ideal S4096x2 .f32) (i j : Fin 4096) : ℕ :=
  cell (rel (pts x j 0) (pts x i 0)) * 6 + cell (rel (pts x j 1) (pts x i 1))

/-- A cell's number is one of the 36. -/
theorem number_lt : number x i j < 36 := by
  have h0 := cell_lt (rel (pts x j 0) (pts x i 0))
  have h1 := cell_lt (rel (pts x j 1) (pts x i 1))
  unfold number; omega

/-- Stage 40 is that number. -/
theorem number_at : val_main_v40 (F := Ideal) x (ix2 i j) = BitVec.ofNat 32 (number x i j) := by
  have e0 : idx_main_v34 (idx_main_v35 (ix2 i j)) = ix3 i j 0 := funext fun d => match d with
    | ⟨0, _⟩ => Fin.ext (by show (i.val * 4096 + j.val) / 4096 = i.val; omega)
    | ⟨1, _⟩ => Fin.ext (by show (i.val * 4096 + j.val) / 1 % 4096 = j.val; omega)
    | ⟨2, _⟩ => rfl
  have e1 : idx_main_v38 (idx_main_v39 (ix2 i j)) = ix3 i j 1 := funext fun d => match d with
    | ⟨0, _⟩ => Fin.ext (by show (i.val * 4096 + j.val) / 4096 = i.val; omega)
    | ⟨1, _⟩ => Fin.ext (by show (i.val * 4096 + j.val) / 1 % 4096 = j.val; omega)
    | ⟨2, _⟩ => rfl
  rw [val_main_v40_apply, val_main_v37_apply, val_main_v35_apply, val_main_v34_apply, val_main_v39_apply, val_main_v38_apply,
    val_main_v36_apply, val_main_c_6_apply, e0, e1, cell_at, cell_at]
  show BitVec.ofNat 32 _ * BitVec.ofNat 32 6 + BitVec.ofNat 32 _ = _
  rw [← BitVec.ofNat_mul, ← BitVec.ofNat_add]
  rfl

/-- Stage 58 holds the row and the cell's number of every update. -/
theorem row_at : (val_main_v58 (F := Ideal) x (ix3 i j 0)).toInt = i.val := by
  have e : val_main_v58 (F := Ideal) x (ix3 i j 0) = val_main_v56 (F := Ideal) (ix3 i j 0) := by
    unfold val_main_v58
    exact concatenate_pair_apply_left (t := S4096x4096x2) (s₁ := S4096x4096x1) (s₂ := S4096x4096x1) 2 _ _ _ (ix3 i j 0) rfl (ix3 i j 0) (fun b => match b with | ⟨0, _⟩ => rfl | ⟨1, _⟩ => rfl | ⟨2, _⟩ => rfl)
  rw [e, val_main_v56_apply, val_main_v50_apply, val_main_v47_apply, val_main_v43_apply, val_main_v42_apply, val_main_v41_apply,
    val_main_v46_apply, val_main_c_8_apply]
  show (Scalar.select (IntOp.cmpi .slt (BitVec.ofNat 32 i.val) 0#32) _ (BitVec.ofNat 32 i.val)).toInt = _
  rw [Routing.wrap_of_lt _ _ (by rw [WordCmp.toNat_ofNat_of_lt (by omega)]; omega), WordCmp.toInt_ofNat_of_lt (by omega)]

/-- The column that the scatter writes is the cell's number. -/
theorem col_at : (val_main_v58 (F := Ideal) x (ix3 i j 1)).toInt = number x i j := by
  have hn := number_lt x i j
  have e : val_main_v58 (F := Ideal) x (ix3 i j 1) = val_main_v57 (F := Ideal) x (ix3 i j 0) := by
    unfold val_main_v58
    exact concatenate_pair_apply_right (t := S4096x4096x2) (s₁ := S4096x4096x1) (s₂ := S4096x4096x1) 2 _ _ _ (ix3 i j 1) rfl rfl (ix3 i j 0)
      (fun b h => match b, h with | ⟨0, _⟩, _ => rfl | ⟨1, _⟩, _ => rfl | ⟨2, _⟩, h => absurd rfl h) rfl
  have ei : idx_main_v57 (ix3 i j 0) = ix2 i j := funext fun d => match d with | ⟨0, _⟩ => rfl | ⟨1, _⟩ => rfl
  rw [e, val_main_v57_apply, ei, val_main_v55_apply, val_main_v52_apply, val_main_v51_apply, val_main_c_10_apply, number_at,
    Routing.wrap_of_lt _ _ (by rw [WordCmp.toNat_ofNat_of_lt (by omega)]; omega), WordCmp.toInt_ofNat_of_lt (by omega)]

open Classical in
/-- A fold by the signed maximum from zero over words that are zero or one: one exactly when one of the
    words that count is. -/
theorem foldl_max {ι : Type} (l : List ι) (hit p : ι → Prop) [DecidablePred hit] [DecidablePred p] (u : ι → BitVec 32)
    (hu : ∀ n, u n = if p n then 1#32 else 0#32) (b : Bool) :
    l.foldl (fun s n => if hit n then IntOp.maxsi s (u n) else s) (if b then 1#32 else 0#32)
      = if b ∨ ∃ n ∈ l, hit n ∧ p n then 1#32 else 0#32 := by
  induction l generalizing b with
  | nil => simp
  | cons n l ih =>
    rw [List.foldl_cons]
    have : (if hit n then IntOp.maxsi (if b then 1#32 else 0#32) (u n) else if b then 1#32 else 0#32)
        = if (b || decide (hit n ∧ p n)) then 1#32 else 0#32 := by
      rw [hu]
      by_cases h1 : hit n <;> by_cases h2 : p n <;> by_cases h3 : b <;> simp [h1, h2, h3] <;> decide
    rw [this, ih]
    simp [or_assoc]

open Classical in
/-- Stage 59, the scatter: one in the cells into which some point falls. -/
theorem occupied_at (k : Fin 36) : val_main_v59 (F := Ideal) x (ix2 i k)
    = if ∃ j, Falls (pts x) i j (k.val / 6) (k.val % 6) then 1#32 else 0#32 := by
  unfold val_main_v59
  have hz : val_main_v44 (F := Ideal) (ix2 i k) = if false then 1#32 else 0#32 := by
    rw [val_main_v44_apply, val_main_c_7_apply]; rfl
  have hu : ∀ n, val_main_v45 (F := Ideal) x (S4096x4096.rowMajor.symm n)
      = if (∃ r q : Fin 4096, S4096x4096.rowMajor.symm n = ix2 r q ∧ r ≠ q ∧ ∀ a, Inside (rel (pts x q a) (pts x r a))) then 1#32 else 0#32 := fun n => by
    obtain ⟨r, q, e⟩ : ∃ r q : Fin 4096, S4096x4096.rowMajor.symm n = ix2 r q := ⟨_, _, eq_ix2 _⟩
    rw [e, val_main_v45_apply, mask_at]
    by_cases h : r ≠ q ∧ ∀ a, Inside (rel (pts x q a) (pts x r a))
    · rw [decide_eq_true h, if_pos ⟨r, q, rfl, h⟩]; rfl
    · rw [decide_eq_false h, if_neg]; · rfl
      rintro ⟨r', q', e', h'⟩
      have e0 : r = r' := congrFun e' 0
      have e1 : q = q' := congrFun e' 1
      subst e0 e1
      exact h h'
  rw [Routing.scatter_at, hz, foldl_max _ _ _ _ hu]
  by_cases hq : ∃ j, Falls (pts x) i j (k.val / 6) (k.val % 6)
  · rw [if_pos hq, if_pos]
    obtain ⟨j, hne, hin, hp, hq⟩ := hq
    refine Or.inr ⟨S4096x4096.rowMajor (ix2 i j), List.mem_finRange _, ?_, i, j, Equiv.symm_apply_apply _ _, hne, hin⟩
    rw [Equiv.symm_apply_apply, Routing.scatter_lands2 _ rfl rfl rfl, row_at, col_at, number, hp, hq]
    omega
  · rw [if_neg hq, if_neg]
    rintro (hf | ⟨n, -, hit, r, q, e, hne, hin⟩)
    · cases hf
    · rw [e, Routing.scatter_lands2 _ rfl rfl rfl, row_at, col_at] at hit
      have h0 := cell_lt (rel (pts x q 0) (pts x r 0))
      have h1 := cell_lt (rel (pts x q 1) (pts x r 1))
      obtain ⟨hr, hk⟩ := hit
      have hri : r = i := Fin.ext (by omega)
      subst hri
      unfold number at hk
      exact hq ⟨q, hne, hin, by omega, by omega⟩

/-- The reference's result. -/
theorem result_at (w : FVec Ideal S128x36 .f32) (b : FVec Ideal S128 .f32) (h : Fin 128) :
    val_main_v65 (F := Ideal) x w b (ix2 i h) = result (pts x) (fun h k => w (ix2 h k)) (fun h => b (ix1 h)) i h := by
  have eb : idx_main_v63 (idx_main_v64 (ix2 i h)) = ix1 h := funext fun d => match d with | ⟨0, _⟩ => rfl
  rw [val_main_v65_apply, val_main_v62_apply, val_main_v64_apply, val_main_v63_apply, eb]
  show (_ : EReal) + _ = _
  rw [result]
  refine congrArg₂ (· + ·) (Finset.sum_congr rfl fun k _ => ?_) rfl
  have el : lidx_main_v62 (ix2 i h) k = ix2 i k := funext fun d => match d with | ⟨0, _⟩ => rfl | ⟨1, _⟩ => rfl
  have er : idx_main_v61 (ridx_main_v62 (ix2 i h) k) = ix2 h k := funext fun d => match d with | ⟨0, _⟩ => rfl | ⟨1, _⟩ => rfl
  rw [val_main_v60_apply, val_main_v61_apply, el, er, occupied_at, occ]
  refine congrArg (· * w (ix2 h k)) ?_
  by_cases hq : ∃ j, Falls (pts x) i j (k.val / 6) (k.val % 6)
  · rw [if_pos hq, if_pos hq]
    show (((1#32 : BitVec 32).toInt : ℝ) : EReal) = 1
    rw [show (1#32 : BitVec 32).toInt = 1 from by decide]; norm_num
  · rw [if_neg hq, if_neg hq]
    show (((0#32 : BitVec 32).toInt : ℝ) : EReal) = 0
    rw [show (0#32 : BitVec 32).toInt = 0 from by decide]; norm_num

end Cert.Occupancy.Ref

end
-- ==== Proof.Tile.lean ====
/- One tile of the kernel, 128 points, as one fold over the sixty-four chunks of rows. -/
module

public import proofs.«01_k».proof.Proof.Gen.KernelIdeal
public import Idealize.ShloMosaic.Lib.Pipeline.ValueKit.Tiles

@[expose] public section

set_option maxRecDepth 65536

noncomputable section

namespace Cert.KernelIdeal.Tile

open Idealize.ShloMosaic Idealize.SL.Sem Cert.KernelIdeal.Gen

variable {F : FTy → Type} [FloatOps F]

/-- Chunk `c` of rows fits into the 4096 rows. -/
theorem chunk_inb (c : Fin 64) : ∀ a, (![64 * c.val, 0] : Fin 2 → Nat) a + S64x128.size a ≤ S4096x128.size a := by
  revert c; decide

/-- Rows `64 c … 64 c + 63` of a table of 4096 rows. -/
def rows (x : Vec F S4096x128 .f32) (c : Fin 64) : Vec F S64x128 .f32 :=
  View.ld x (Rect.unit (s := S4096x128) ![64 * c.val, 0] S64x128.size (chunk_inb c))

/-- The position of the chunk's points relative to the tile's points, along one axis. -/
def rel (xi : Vec F S1x128 .f32) (s : Vec F S64x128 .f32) : FVec F S64x128 .f32 :=
  addf (subf (shapeCast S64x128 s shapeCasts_S64x128_S64x128)
    (broadcastTo S64x128 (shapeCast S1x128 xi shapeCasts_S1x128_S1x128) broadcasts_S1x128_S64x128))
    (broadcast S64x128 (Scalar.ofBits .f32 0x40400000#32))

/-- Whether a relative position lies in the window `[0, 6)`. -/
def inside (r : FVec F S64x128 .f32) : IVec S64x128 1 :=
  andi (cmpf .oge r (broadcast S64x128 (Scalar.ofBits .f32 0x00000000#32)))
    (cmpf .olt r (broadcast S64x128 (Scalar.ofBits .f32 0x40C00000#32)))

/-- Whether the chunk's point and the tile's point are different ones. -/
def other (ids : IVec S1x128 32) (c : Fin 64) : IVec S64x128 1 :=
  cmpi .ne
    (broadcastTo S64x128 (addi (broadcast S64x1 (BitVec.ofNat 32 (64 * c.val))) (iota .tc S64x1 32 [0] iota_S64x1_d0_w32))
      broadcasts_S64x1_S64x128)
    (broadcastTo S64x128 ids broadcasts_S1x128_S64x128)

/-- The cell's number, three bits per axis. -/
def cell (rx ry : FVec F S64x128 .f32) : IVec S64x128 32 :=
  ori (shli (fptosi 32 rx) (broadcast S64x128 3#32)) (fptosi 32 ry)

/-- One bit, at the cell's number modulo 32, where the point counts; no bit elsewhere. -/
def mark (v : IVec S64x128 1) (ci : IVec S64x128 32) : IVec S64x128 32 :=
  select v (shli (broadcast S64x128 1#32) (andi ci (broadcast S64x128 31#32))) (broadcast S64x128 0#32)

/-- The bits of the cells below 32. -/
def low (v : IVec S64x128 1) (ci : IVec S64x128 32) : IVec S64x128 32 :=
  select (cmpi .slt ci (broadcast S64x128 32#32)) (mark v ci) (broadcast S64x128 0#32)

/-- The bits of the cells from 32 on. -/
def high (v : IVec S64x128 1) (ci : IVec S64x128 32) : IVec S64x128 32 :=
  xori (mark v ci) (low v ci)

/-- Whether the chunk's point counts for the tile's point. -/
def counts (ids : IVec S1x128 32) (xi yi : Vec F S1x128 .f32) (x0 x1 : Vec F S4096x128 .f32) (c : Fin 64) : IVec S64x128 1 :=
  andi (andi (inside (rel xi (rows x0 c))) (inside (rel yi (rows x1 c)))) (other ids c)

/-- What the first `n` chunks give, gathered by `or`. -/
def gather (f : Fin 64 → IVec S64x128 32) : (n : ℕ) → n ≤ 64 → IVec S64x128 32
  | 0, _ => broadcast S64x128 0#32
  | n + 1, h => ori (gather f n (Nat.le_of_succ_le h)) (f ⟨n, h⟩)

/-- What a chunk gives to the cells below 32. -/
def lows (ids : IVec S1x128 32) (xi yi : Vec F S1x128 .f32) (x0 x1 : Vec F S4096x128 .f32) (c : Fin 64) : IVec S64x128 32 :=
  low (counts ids xi yi x0 x1 c) (cell (rel xi (rows x0 c)) (rel yi (rows x1 c)))

/-- What a chunk gives to the cells from 32 on. -/
def highs (ids : IVec S1x128 32) (xi yi : Vec F S1x128 .f32) (x0 x1 : Vec F S4096x128 .f32) (c : Fin 64) : IVec S64x128 32 :=
  high (counts ids xi yi x0 x1 c) (cell (rel xi (rows x0 c)) (rel yi (rows x1 c)))

/-- The 64 rows folded to one by halving. -/
def fold64 (a : IVec S64x128 32) : IVec S1x128 32 :=
  let b : IVec S32x128 32 := ori (extractStridedSlice S32x128 ![0, 0] a slices_S64x128_o0_0_S32x128)
    (extractStridedSlice S32x128 ![32, 0] a slices_S64x128_o32_0_S32x128)
  let c : IVec S16x128 32 := ori (extractStridedSlice S16x128 ![0, 0] b slices_S32x128_o0_0_S16x128)
    (extractStridedSlice S16x128 ![16, 0] b slices_S32x128_o16_0_S16x128)
  let d : IVec S8x128 32 := ori (extractStridedSlice S8x128 ![0, 0] c slices_S16x128_o0_0_S8x128)
    (extractStridedSlice S8x128 ![8, 0] c slices_S16x128_o8_0_S8x128)
  let e : IVec S4x128 32 := ori (extractStridedSlice S4x128 ![0, 0] d slices_S8x128_o0_0_S4x128)
    (extractStridedSlice S4x128 ![4, 0] d slices_S8x128_o4_0_S4x128)
  let f : IVec S2x128 32 := ori (extractStridedSlice S2x128 ![0, 0] e slices_S4x128_o0_0_S2x128)
    (extractStridedSlice S2x128 ![2, 0] e slices_S4x128_o2_0_S2x128)
  ori (extractStridedSlice S1x128 ![0, 0] f slices_S2x128_o0_0_S1x128)
    (extractStridedSlice S1x128 ![1, 0] f slices_S2x128_o1_0_S1x128)

/-- The 48 rows of bits, as numbers. -/
def bits (lo hi : IVec S1x128 32) : FVec F S48x128 .f32 :=
  sitofp .f32 (concatenate S48x128 0
    [⟨S32x128, andi (shrsi (broadcastTo S32x128 (shapeCast S1x128 lo shapeCasts_S1x128_S1x128) broadcasts_S1x128_S32x128)
        (broadcastTo S32x128 (iota .tc S32x1 32 [0] iota_S32x1_d0_w32) broadcasts_S32x1_S32x128)) (broadcast S32x128 1#32)⟩,
     ⟨S16x128, andi (shrsi (broadcastTo S16x128 (shapeCast S1x128 hi shapeCasts_S1x128_S1x128) broadcasts_S1x128_S16x128)
        (broadcastTo S16x128 (iota .tc S16x1 32 [0] iota_S16x1_d0_w32) broadcasts_S16x1_S16x128)) (broadcast S16x128 1#32)⟩]
    concatenates_S32x128_S16x128_S48x128_d0)

/-- The tile of results the body stores: the bits' product with the weights, plus the offset. -/
def tile (ids : IVec S1x128 32) (xi yi : Vec F S1x128 .f32) (x0 x1 : Vec F S4096x128 .f32) (w : Vec F S128x48 .f32)
    (b : Vec F S1x128 .f32) : FVec F S128x128 .f32 :=
  addf (matmul dot_S48x128_S128x48_S128x128_0_1_1_0_n_n none
      (bits (fold64 (gather (lows ids xi yi x0 x1) 64 (Nat.le_refl 64))) (fold64 (gather (highs ids xi yi x0 x1) 64 (Nat.le_refl 64))))
      (shapeCast S128x48 w shapeCasts_S128x48_S128x48) (constant S128x128 .f32 0x00000000#32))
    (broadcastTo S128x128 (shapeCast S1x128 b shapeCasts_S1x128_S1x128) broadcasts_S1x128_S128x128)

end Cert.KernelIdeal.Tile

end
-- ==== Proof.Words.lean ====
/- The words the kernel makes of one point: the cell's number, and one bit of two 32-bit words at that
   number. Closed facts about 32-bit words; nothing here speaks of a program. -/
module

public import Idealize.ShloMosaic.Lib.WordCmp

@[expose] public section

namespace Cert.Occupancy

open Idealize.ShloMosaic

/-- The number of a cell, three bits per axis. -/
def number (a b : BitVec 32) : BitVec 32 := IntOp.ori (IntOp.shli .vector a 3#32) b

/-- One bit at a number modulo 32 where `v` is set, and no bit elsewhere. -/
def mark (v : BitVec 1) (ci : BitVec 32) : BitVec 32 :=
  Scalar.select v (IntOp.shli .vector 1#32 (IntOp.andi ci 31#32)) 0#32

/-- The bit of a number below 32. -/
def low (v : BitVec 1) (ci : BitVec 32) : BitVec 32 := Scalar.select (IntOp.cmpi .slt ci 32#32) (mark v ci) 0#32

/-- The bit of a number from 32 on. -/
def high (v : BitVec 1) (ci : BitVec 32) : BitVec 32 := IntOp.xori (mark v ci) (low v ci)

/-- Where nothing counts, no bit is set. -/
theorem low_zero (ci : BitVec 32) : low 0#1 ci = 0#32 := by
  unfold low mark Scalar.select
  split <;> rfl

/-- Where nothing counts, no bit is set. -/
theorem high_zero (ci : BitVec 32) : high 0#1 ci = 0#32 := by
  rw [high, low_zero]
  unfold mark Scalar.select
  rw [if_neg (by decide)]
  rfl

/-- The bits of the low word are the cells `(m / 8, m % 8)` below 32. -/
theorem low_bit : ∀ (a b : Fin 6) (m : Fin 32),
    (low 1#1 (number (BitVec.ofNat 32 a.val) (BitVec.ofNat 32 b.val))).getLsbD m.val = decide (a.val = m.val / 8 ∧ b.val = m.val % 8) := by
  decide +kernel

/-- The bits of the high word are the cells `(m / 8, m % 8)` from 32 on. -/
theorem high_bit : ∀ (a b : Fin 6) (m : Fin 16),
    (high 1#1 (number (BitVec.ofNat 32 a.val) (BitVec.ofNat 32 b.val))).getLsbD m.val
      = decide (a.val = (m.val + 32) / 8 ∧ b.val = (m.val + 32) % 8) := by
  decide +kernel

/-- A bit read by shifting it to the end and masking. -/
theorem shifted_bit (v : BitVec 32) (m : ℕ) (hm : m < 32) :
    IntOp.andi (IntOp.shrsi .vector v (BitVec.ofNat 32 m)) 1#32 = if v.getLsbD m then 1#32 else 0#32 := by
  have e : (BitVec.ofNat 32 m).toNat = m := by rw [BitVec.toNat_ofNat]; omega
  have hs : IntOp.shrsi .vector v (BitVec.ofNat 32 m) = v.sshiftRight m := by
    unfold IntOp.shrsi
    rw [if_pos (by rw [e]; exact hm), BitVec.sshiftRight', e]
  rw [hs]
  unfold IntOp.andi
  apply BitVec.eq_of_getLsbD_eq
  intro k hk
  rcases Nat.eq_zero_or_pos k with rfl | hk0
  · have : (v.sshiftRight m).getLsbD 0 = v.getLsbD m := by
      rw [BitVec.getLsbD_sshiftRight]
      simp [hm]
    rw [BitVec.getLsbD_and, this]
    cases v.getLsbD m <;> simp
  · have h1 : (1#32 : BitVec 32).getLsbD k = false := by
      rw [BitVec.getLsbD_one]; simp; omega
    rw [BitVec.getLsbD_and, h1, Bool.and_false]
    split
    · exact h1.symm
    · simp

end Cert.Occupancy

end
-- ==== Proof.TileRead.lean ====
/- One tile of the kernel read at an index over the extended reals: it is the result of `Cells.lean`
   at the tile's points. -/
module

public import proofs.«01_k».proof.Proof.Tile
public import proofs.«01_k».proof.Proof.Cells
public import proofs.«01_k».proof.Proof.Words
public import Idealize.ShloMosaic.Lib.ValueIdxCore

@[expose] public section

set_option maxRecDepth 16384

noncomputable section

namespace Cert.KernelIdeal.TileRead

open Idealize.ShloMosaic Idealize.ShloMosaic.ValueIdx Cert.KernelIdeal Cert.KernelIdeal.Gen Cert.Occupancy

/-- The row number of row `p` of chunk `c`. -/
def row (c p : Fin 64) : Fin 4096 := ⟨64 * c.val + p.val, by omega⟩

/-- A chunk's rows are rows of the whole table. -/
theorem rows_at (x0 : Vec Ideal S4096x128 .f32) (c p : Fin 64) (l : Fin 128) :
    Tile.rows x0 c (ix2 p l) = x0 (ix2 (row c p) l) :=
  View.ld_unit_apply_of _ _ _ _ _ _ fun a => match a with
    | ⟨0, _⟩ => rfl
    | ⟨1, _⟩ => (Nat.zero_add _).symm

/-- One row repeated for every row. -/
theorem spread_row {n : ℕ} {α : Type} (v : S1x128.Idx → α) (h : S1x128.Broadcasts ⟨2, ![n, 128]⟩) (p : Fin n) (l : Fin 128) :
    broadcastTo ⟨2, ![n, 128]⟩ v h (ix2 p l) = v (ix2 0 l) :=
  broadcastTo_apply _ _ _ _ fun a => match a with
    | ⟨0, _⟩ => rfl
    | ⟨1, _⟩ => rfl

/-- One column repeated for every column. -/
theorem spread_col {n : ℕ} {α : Type} (hn : n ≠ 1) (v : (⟨2, ![n, 1]⟩ : Shape).Idx → α) (h : (⟨2, ![n, 1]⟩ : Shape).Broadcasts ⟨2, ![n, 128]⟩)
    (p : Fin n) (l : Fin 128) : broadcastTo ⟨2, ![n, 128]⟩ v h (ix2 p l) = v (ix2 p 0) :=
  broadcastTo_apply _ _ _ _ fun a => match a with
    | ⟨0, _⟩ => (if_neg hn).symm
    | ⟨1, _⟩ => rfl

section Points

variable (x : Fin 4096 → Fin 2 → EReal) (i : Fin 128 → Fin 4096)

/-- The relative position of the chunk's point as seen from the tile's point, along one axis. -/
theorem rel_at (a : Fin 2) (ti : Vec Ideal S1x128 .f32) (t : Vec Ideal S4096x128 .f32) (ht : ∀ j l, t (ix2 j l) = x j a * 2)
    (hi : ∀ l, ti (ix2 0 l) = x (i l) a * 2) (c p : Fin 64) (l : Fin 128) :
    Tile.rel ti (Tile.rows t c) (ix2 p l) = Occupancy.rel (x (row c p) a) (x (i l) a) := by
  unfold Tile.rel
  rw [shapeCast_self, shapeCast_self]
  show Tile.rows t c (ix2 p l) - broadcastTo S64x128 ti _ (ix2 p l) + Ideal.ofBits .f32 0x40400000#32 = _
  rw [rows_at, spread_row, ht, hi, ofBits_three, Occupancy.rel]

open Classical in
/-- Whether a relative position lies in the grid. -/
theorem inside_at (r : FVec Ideal S64x128 .f32) (k : S64x128.Idx) : Tile.inside r k = BitVec.ofBool (decide (Inside (r k))) := by
  show IntOp.andi (BitVec.ofBool (decide (Ideal.ofBits .f32 0x00000000#32 ≤ r k)))
    (BitVec.ofBool (decide (r k < Ideal.ofBits .f32 0x40C00000#32))) = _
  rw [ofBits_zero, ofBits_six, WordCmp.andi_ofBool, Inside, Bool.decide_and]

/-- Whether the chunk's point and the tile's point are different ones. -/
theorem other_at (ids : IVec S1x128 32) (hids : ∀ l, ids (ix2 0 l) = BitVec.ofNat 32 (i l).val) (c p : Fin 64) (l : Fin 128) :
    Tile.other ids c (ix2 p l) = BitVec.ofBool (decide (i l ≠ row c p)) := by
  show IntOp.cmpi .ne (broadcastTo S64x128 _ _ (ix2 p l)) (broadcastTo S64x128 ids _ (ix2 p l)) = _
  rw [spread_row, spread_col (by decide), hids]
  show IntOp.cmpi .ne (BitVec.ofNat 32 (64 * c.val) + iota .tc S64x1 32 [0] _ (ix2 p 0)) _ = _
  rw [iota_single_apply]
  show IntOp.cmpi .ne (BitVec.ofNat 32 (64 * c.val) + BitVec.ofNat 32 p.val) _ = _
  rw [← BitVec.ofNat_add, WordCmp.cmpi_ne_ofNat (by omega) (by omega)]
  congr 1
  refine decide_eq_decide.2 (not_congr ⟨fun h => Fin.ext h.symm, fun h => ?_⟩)
  rw [h]; rfl

/-- A tile's inputs: the table of all positions, doubled, along both axes, and the tile's points. -/
structure Reads (ids : IVec S1x128 32) (xi yi : Vec Ideal S1x128 .f32) (x0 x1 : Vec Ideal S4096x128 .f32) : Prop where
  all0 : ∀ j l, x0 (ix2 j l) = x j 0 * 2
  all1 : ∀ j l, x1 (ix2 j l) = x j 1 * 2
  own0 : ∀ l, xi (ix2 0 l) = x (i l) 0 * 2
  own1 : ∀ l, yi (ix2 0 l) = x (i l) 1 * 2
  ids : ∀ l, ids (ix2 0 l) = BitVec.ofNat 32 (i l).val

variable {x i} {ids : IVec S1x128 32} {xi yi : Vec Ideal S1x128 .f32} {x0 x1 : Vec Ideal S4096x128 .f32}

open Classical in
/-- Whether the chunk's point counts for the tile's point. -/
theorem counts_at (h : Reads x i ids xi yi x0 x1) (c p : Fin 64) (l : Fin 128) :
    Tile.counts ids xi yi x0 x1 c (ix2 p l)
      = BitVec.ofBool (decide (i l ≠ row c p ∧ ∀ a, Inside (Occupancy.rel (x (row c p) a) (x (i l) a)))) := by
  show IntOp.andi (IntOp.andi (Tile.inside _ (ix2 p l)) (Tile.inside _ (ix2 p l))) (Tile.other ids c (ix2 p l)) = _
  rw [inside_at, inside_at, other_at i ids h.ids, rel_at x i 0 xi x0 h.all0 h.own0, rel_at x i 1 yi x1 h.all1 h.own1,
    WordCmp.andi_ofBool, WordCmp.andi_ofBool]
  congr 1
  rw [Bool.eq_iff_iff]
  simp only [Bool.and_eq_true, decide_eq_true_eq, Fin.forall_fin_two]
  tauto

/-- The cell's number as a word of the two words of the axes. -/
theorem cell_at (h : Reads x i ids xi yi x0 x1) (c p : Fin 64) (l : Fin 128) :
    Tile.cell (Tile.rel xi (Tile.rows x0 c)) (Tile.rel yi (Tile.rows x1 c)) (ix2 p l)
      = number (Ideal.fptosi 32 (Occupancy.rel (x (row c p) 0) (x (i l) 0))) (Ideal.fptosi 32 (Occupancy.rel (x (row c p) 1) (x (i l) 1))) := by
  show number (Ideal.fptosi 32 (Tile.rel xi (Tile.rows x0 c) (ix2 p l))) (Ideal.fptosi 32 (Tile.rel yi (Tile.rows x1 c) (ix2 p l))) = _
  rw [rel_at x i 0 xi x0 h.all0 h.own0, rel_at x i 1 yi x1 h.all1 h.own1]

/-- Bit `m` of what a chunk's row gives to a word, where the word's bits are the cells from `o` on: whether the row's point
    falls into that cell. `g` is the word as a function of whether the point counts and of its cell. -/
theorem bit_at (g : BitVec 1 → BitVec 32 → BitVec 32) (o m : ℕ) (h0 : ∀ ci, g 0#1 ci = 0#32)
    (h1 : ∀ a b : Fin 6, (g 1#1 (number (BitVec.ofNat 32 a.val) (BitVec.ofNat 32 b.val))).getLsbD m
      = decide (a.val = (m + o) / 8 ∧ b.val = (m + o) % 8))
    (h : Reads x i ids xi yi x0 x1) (c p : Fin 64) (l : Fin 128) :
    (g (Tile.counts ids xi yi x0 x1 c (ix2 p l))
      (Tile.cell (Tile.rel xi (Tile.rows x0 c)) (Tile.rel yi (Tile.rows x1 c)) (ix2 p l))).getLsbD m = true
      ↔ Falls x (i l) (row c p) ((m + o) / 8) ((m + o) % 8) := by
  classical
  rw [counts_at h, cell_at h]
  by_cases hc : i l ≠ row c p ∧ ∀ a, Inside (Occupancy.rel (x (row c p) a) (x (i l) a))
  · rw [decide_eq_true hc, fptosi_inside (hc.2 0), fptosi_inside (hc.2 1)]
    show (g 1#1 _).getLsbD m = true ↔ _
    rw [h1 ⟨_, cell_lt _⟩ ⟨_, cell_lt _⟩, decide_eq_true_iff]
    exact ⟨fun e => ⟨hc.1, hc.2, e.1, e.2⟩, fun e => e.2.2⟩
  · rw [decide_eq_false hc]
    show (g 0#1 _).getLsbD m = true ↔ _
    rw [h0, BitVec.getLsbD_zero]
    exact ⟨fun e => absurd e (by decide), fun e => absurd ⟨e.1, e.2.1⟩ hc⟩

/-- The low word's bits of one chunk. -/
theorem lows_at (h : Reads x i ids xi yi x0 x1) (c p : Fin 64) (l : Fin 128) (m : ℕ) (hm : m < 32) :
    (Tile.lows ids xi yi x0 x1 c (ix2 p l)).getLsbD m = true ↔ Falls x (i l) (row c p) (m / 8) (m % 8) :=
  bit_at Occupancy.low 0 m low_zero (fun a b => low_bit a b ⟨m, hm⟩) h c p l

/-- The high word's bits of one chunk. -/
theorem highs_at (h : Reads x i ids xi yi x0 x1) (c p : Fin 64) (l : Fin 128) (m : ℕ) (hm : m < 16) :
    (Tile.highs ids xi yi x0 x1 c (ix2 p l)).getLsbD m = true ↔ Falls x (i l) (row c p) ((m + 32) / 8) ((m + 32) % 8) :=
  bit_at Occupancy.high 32 m high_zero (fun a b => high_bit a b ⟨m, hm⟩) h c p l

end Points

/-- A bit of what the first `n` chunks give is that bit of one of them. -/
theorem gather_at (f : Fin 64 → IVec S64x128 32) (k : S64x128.Idx) (m : ℕ) : ∀ (n : ℕ) (hn : n ≤ 64),
    (Tile.gather f n hn k).getLsbD m = true ↔ ∃ c : Fin 64, c.val < n ∧ (f c k).getLsbD m = true
  | 0, _ => by
    show (0#32 : BitVec 32).getLsbD m = true ↔ _
    rw [BitVec.getLsbD_zero]
    exact ⟨fun e => absurd e (by decide), fun ⟨_, e, _⟩ => absurd e (Nat.not_lt_zero _)⟩
  | n + 1, hn => by
    show (Tile.gather f n _ k ||| f ⟨n, hn⟩ k).getLsbD m = true ↔ _
    rw [BitVec.getLsbD_or, Bool.or_eq_true, gather_at f k m n]
    constructor
    · rintro (⟨c, hc, e⟩ | e)
      · exact ⟨c, Nat.lt_succ_of_lt hc, e⟩
      · exact ⟨⟨n, hn⟩, Nat.lt_succ_self n, e⟩
    · rintro ⟨c, hc, e⟩
      rcases Nat.lt_succ_iff_lt_or_eq.1 hc with h | h
      · exact Or.inl ⟨c, h, e⟩
      · exact Or.inr (by rwa [show (⟨n, hn⟩ : Fin 64) = c from Fin.ext h.symm])

/-- One halving keeps what bits occur in a column. -/
theorem halve {n h : ℕ} (hn : n = h + h) (a : IVec ⟨2, ![n, 128]⟩ 32)
    (s0 : (⟨2, ![n, 128]⟩ : Shape).Slices ![0, 0] ⟨2, ![h, 128]⟩) (s1 : (⟨2, ![n, 128]⟩ : Shape).Slices ![h, 0] ⟨2, ![h, 128]⟩)
    (l : Fin 128) (m : ℕ) :
    (∃ p : Fin h, (ori (extractStridedSlice ⟨2, ![h, 128]⟩ ![0, 0] a s0) (extractStridedSlice ⟨2, ![h, 128]⟩ ![h, 0] a s1)
      (ix2 p l)).getLsbD m = true) ↔ ∃ p : Fin n, (a (ix2 p l)).getLsbD m = true := by
  have e : ∀ p : Fin h, ori (extractStridedSlice ⟨2, ![h, 128]⟩ ![0, 0] a s0) (extractStridedSlice ⟨2, ![h, 128]⟩ ![h, 0] a s1)
      (ix2 p l) = a (ix2 (⟨p.val, by omega⟩ : Fin n) l) ||| a (ix2 (⟨h + p.val, by omega⟩ : Fin n) l) := fun p => by
    show extractStridedSlice ⟨2, ![h, 128]⟩ ![0, 0] a s0 (ix2 p l) ||| extractStridedSlice ⟨2, ![h, 128]⟩ ![h, 0] a s1 (ix2 p l) = _
    rw [extractStridedSlice_apply _ _ _ _ (ix2 (⟨p.val, by omega⟩ : Fin n) l) fun a => match a with
        | ⟨0, _⟩ => (Nat.zero_add _).symm
        | ⟨1, _⟩ => (Nat.zero_add _).symm,
      extractStridedSlice_apply _ _ _ _ (ix2 (⟨h + p.val, by omega⟩ : Fin n) l) fun a => match a with
        | ⟨0, _⟩ => rfl
        | ⟨1, _⟩ => (Nat.zero_add _).symm]
  constructor
  · rintro ⟨p, hp⟩
    rw [e, BitVec.getLsbD_or, Bool.or_eq_true] at hp
    exact hp.elim (fun q => ⟨_, q⟩) fun q => ⟨_, q⟩
  · rintro ⟨p, hp⟩
    by_cases hl : p.val < h
    · refine ⟨⟨p.val, hl⟩, ?_⟩
      rw [e, BitVec.getLsbD_or, Bool.or_eq_true]
      exact Or.inl hp
    · refine ⟨⟨p.val - h, by omega⟩, ?_⟩
      rw [e, BitVec.getLsbD_or, Bool.or_eq_true]
      refine Or.inr ?_
      rwa [show (⟨h + (p.val - h), by omega⟩ : Fin n) = p from Fin.ext (by show h + (p.val - h) = p.val; omega)]

/-- The fold of 64 rows has the bits that occur in the column. -/
theorem fold64_at (a : IVec S64x128 32) (l : Fin 128) (m : ℕ) :
    (Tile.fold64 a (ix2 0 l)).getLsbD m = true ↔ ∃ p : Fin 64, (a (ix2 p l)).getLsbD m = true := by
  unfold Tile.fold64
  refine Iff.trans ?_ (halve rfl a slices_S64x128_o0_0_S32x128 slices_S64x128_o32_0_S32x128 l m)
  refine Iff.trans ?_ (halve rfl _ slices_S32x128_o0_0_S16x128 slices_S32x128_o16_0_S16x128 l m)
  refine Iff.trans ?_ (halve rfl _ slices_S16x128_o0_0_S8x128 slices_S16x128_o8_0_S8x128 l m)
  refine Iff.trans ?_ (halve rfl _ slices_S8x128_o0_0_S4x128 slices_S8x128_o4_0_S4x128 l m)
  refine Iff.trans ?_ (halve rfl _ slices_S4x128_o0_0_S2x128 slices_S4x128_o2_0_S2x128 l m)
  refine Iff.trans ?_ (halve rfl _ slices_S2x128_o0_0_S1x128 slices_S2x128_o1_0_S1x128 l m)
  exact ⟨fun e => ⟨0, e⟩, fun ⟨p, e⟩ => by rwa [Subsingleton.elim p 0] at e⟩

/-- Every point is a row of a chunk. -/
theorem exists_row (q : Fin 4096 → Prop) : (∃ p c : Fin 64, q (row c p)) ↔ ∃ j, q j := by
  refine ⟨fun ⟨p, c, e⟩ => ⟨_, e⟩, fun ⟨j, e⟩ => ⟨⟨j.val % 64, by omega⟩, ⟨j.val / 64, by omega⟩, ?_⟩⟩
  rwa [show row ⟨j.val / 64, by omega⟩ ⟨j.val % 64, by omega⟩ = j from Fin.ext (Nat.div_add_mod ..)]

/-- A bit of the folded word: whether some chunk's row sets it. -/
theorem folded_at (f : Fin 64 → IVec S64x128 32) (q : Fin 4096 → Prop) (l : Fin 128) (m : ℕ)
    (h : ∀ c p, (f c (ix2 p l)).getLsbD m = true ↔ q (row c p)) :
    (Tile.fold64 (Tile.gather f 64 (Nat.le_refl 64)) (ix2 0 l)).getLsbD m = true ↔ ∃ j, q j := by
  rw [fold64_at, ← exists_row]
  refine exists_congr fun p => ?_
  rw [gather_at]
  exact ⟨fun ⟨c, _, e⟩ => ⟨c, (h c p).1 e⟩, fun ⟨c, e⟩ => ⟨c, c.isLt, (h c p).2 e⟩⟩

/-- One as a word is one as a number, zero is zero. -/
theorem sitofp_bit (b : Bool) : FloatOps.sitofp (F := Ideal) .f32 (if b = true then 1#32 else 0#32) = (if b = true then 1 else 0 : EReal) := by
  cases b
  · show (((0#32 : BitVec 32).toInt : ℝ) : EReal) = 0
    norm_num
  · show (((1#32 : BitVec 32).toInt : ℝ) : EReal) = 1
    norm_num

/-- One of the words' `n` bits, at its row. -/
theorem shift_at {n : ℕ} (hn : n ≠ 1) (hn32 : n ≤ 32) (v : IVec S1x128 32) (h0 : S1x128.ShapeCasts S1x128)
    (h1 : S1x128.Broadcasts ⟨2, ![n, 128]⟩) (h2 : (⟨2, ![n, 1]⟩ : Shape).Broadcasts ⟨2, ![n, 128]⟩)
    (h3 : (⟨2, ![n, 1]⟩ : Shape).Iotas .tc 32 [0]) (p : Fin n) (l : Fin 128) :
    andi (shrsi (broadcastTo ⟨2, ![n, 128]⟩ (shapeCast S1x128 v h0) h1)
      (broadcastTo ⟨2, ![n, 128]⟩ (iota .tc ⟨2, ![n, 1]⟩ 32 [0] h3) h2)) (broadcast ⟨2, ![n, 128]⟩ 1#32) (ix2 p l)
      = if (v (ix2 0 l)).getLsbD p.val = true then 1#32 else 0#32 := by
  rw [shapeCast_self]
  show IntOp.andi (IntOp.shrsi .vector (broadcastTo _ v h1 (ix2 p l)) (broadcastTo _ _ h2 (ix2 p l))) 1#32 = _
  rw [spread_row, spread_col hn, iota_single_apply]
  exact shifted_bit _ p.val (by omega)

/-- The upper 32 rows are the low word's bits. -/
theorem bits_low (lo hi : IVec S1x128 32) (m : Fin 48) (l : Fin 128) (hm : m.val < 32) :
    Tile.bits (F := Ideal) lo hi (ix2 m l) = if (lo (ix2 0 l)).getLsbD m.val = true then 1 else 0 := by
  unfold Tile.bits
  rw [ValueIdx.sitofp_apply, concatenate_pair_apply_left (t := S48x128) (s₁ := S32x128) (s₂ := S16x128) 0 _ _ _ (ix2 m l) rfl
    (ix2 ⟨m.val, hm⟩ l) fun a => match a with
      | ⟨0, _⟩ => rfl
      | ⟨1, _⟩ => rfl]
  rw [shift_at (by decide) (by decide)]
  exact sitofp_bit _

/-- The lower 16 rows are the high word's bits. -/
theorem bits_high (lo hi : IVec S1x128 32) (m : Fin 48) (l : Fin 128) (hm : 32 ≤ m.val) :
    Tile.bits (F := Ideal) lo hi (ix2 m l) = if (hi (ix2 0 l)).getLsbD (m.val - 32) = true then 1 else 0 := by
  unfold Tile.bits
  rw [ValueIdx.sitofp_apply, concatenate_pair_apply_right (t := S48x128) (s₁ := S32x128) (s₂ := S16x128) 0 _ _ _ (ix2 m l) rfl rfl
    (ix2 ⟨m.val - 32, by omega⟩ l) (fun a => match a with
      | ⟨0, _⟩ => fun h => absurd rfl h
      | ⟨1, _⟩ => fun _ => rfl) (by show m.val - 32 + 32 = m.val; omega)]
  rw [shift_at (by decide) (by decide)]
  exact sitofp_bit _

variable {x : Fin 4096 → Fin 2 → EReal} {i : Fin 128 → Fin 4096} {ids : IVec S1x128 32} {xi yi : Vec Ideal S1x128 .f32}
  {x0 x1 : Vec Ideal S4096x128 .f32}

/-- Row `m` of the bits says whether cell `(m / 8, m % 8)` is occupied. -/
theorem bits_at (h : Reads x i ids xi yi x0 x1) (m : Fin 48) (l : Fin 128) :
    Tile.bits (F := Ideal) (Tile.fold64 (Tile.gather (Tile.lows ids xi yi x0 x1) 64 (Nat.le_refl 64)))
      (Tile.fold64 (Tile.gather (Tile.highs ids xi yi x0 x1) 64 (Nat.le_refl 64))) (ix2 m l)
      = occ x (i l) (m.val / 8) (m.val % 8) := by
  classical
  by_cases hm : m.val < 32
  · rw [bits_low _ _ m l hm]
    have e := folded_at (Tile.lows ids xi yi x0 x1) (fun j => Falls x (i l) j (m.val / 8) (m.val % 8)) l m.val
      fun c p => lows_at h c p l m.val hm
    unfold occ
    by_cases hf : ∃ j, Falls x (i l) j (m.val / 8) (m.val % 8)
    · rw [if_pos hf, if_pos (e.2 hf)]
    · rw [if_neg hf, if_neg fun q => hf (e.1 q)]
  · have hm' : 32 ≤ m.val := by omega
    rw [bits_high _ _ m l hm']
    have e := folded_at (Tile.highs ids xi yi x0 x1) (fun j => Falls x (i l) j (m.val / 8) (m.val % 8)) l (m.val - 32)
      fun c p => by
        have := highs_at h c p l (m.val - 32) (by omega)
        rwa [Nat.sub_add_cancel hm'] at this
    unfold occ
    by_cases hf : ∃ j, Falls x (i l) j (m.val / 8) (m.val % 8)
    · rw [if_pos hf, if_pos (e.2 hf)]
    · rw [if_neg hf, if_neg fun q => hf (e.1 q)]

/-- The product of the bits' rows, as columns, with the weights' rows is the sum over the 48 rows of bits. -/
theorem product_at (o : FVec Ideal S48x128 .f32) (w : FVec Ideal S128x48 .f32) (l h : Fin 128) :
    matmul (F := Ideal) dot_S48x128_S128x48_S128x128_0_1_1_0_n_n none o w (constant S128x128 .f32 0x00000000#32) (ix2 l h)
      = ∑ m : Fin 48, o (ix2 m l) * w (ix2 h m) := by
  refine (Ideal.matmul_constant_zero_apply _ _ o w (ix2 l h)).trans ?_
  refine (Equiv.sum_comp (contrEquiv1 dot_S48x128_S128x48_S128x128_0_1_1_0_n_n 48 rfl rfl).symm _).symm.trans ?_
  refine Finset.sum_congr rfl fun m _ => ?_
  have hk := contrEquiv1_symm_val dot_S48x128_S128x48_S128x128_0_1_1_0_n_n 48 rfl rfl m
  have el : dot_S48x128_S128x48_S128x128_0_1_1_0_n_n.lhsIdx (ix2 l h)
      ((contrEquiv1 dot_S48x128_S128x48_S128x128_0_1_1_0_n_n 48 rfl rfl).symm m) = ix2 m l := funext fun a => Fin.ext (by
    match a with
    | ⟨0, _⟩ => exact (DotDims.lhsIdx_val_of_single _ rfl _ _).trans hk
    | ⟨1, _⟩ =>
      show (dot_S48x128_S128x48_S128x128_0_1_1_0_n_n.lhsIdx (ix2 l h) _ 1).val = _
      unfold DotDims.lhsIdx
      rw [dif_neg (by decide), dif_pos (by decide)]
      rfl)
  have er : dot_S48x128_S128x48_S128x128_0_1_1_0_n_n.rhsIdx (ix2 l h)
      ((contrEquiv1 dot_S48x128_S128x48_S128x128_0_1_1_0_n_n 48 rfl rfl).symm m) = ix2 h m := funext fun a => Fin.ext (by
    match a with
    | ⟨0, _⟩ =>
      show (dot_S48x128_S128x48_S128x128_0_1_1_0_n_n.rhsIdx (ix2 l h) _ 0).val = _
      unfold DotDims.rhsIdx
      rw [dif_neg (by decide), dif_pos (by decide)]
      rfl
    | ⟨1, _⟩ => exact (DotDims.rhsIdx_val_of_single _ rfl _ _).trans hk)
  rw [el, er]

/-- The weights of 36 cells spread over 48 rows, six of every eight: the sum over the rows is the sum over the cells. -/
theorem sum_cells (f : ℕ → ℕ → EReal) (g : Fin 36 → EReal) :
    (∑ m : Fin 48, f (m.val / 8) (m.val % 8) *
      (if hm : m.val % 8 < 6 then g ⟨6 * (m.val / 8) + m.val % 8, by omega⟩ else 0))
      = ∑ k : Fin 36, f (k.val / 6) (k.val % 6) * g k := by
  refine (Finset.sum_of_injOn (fun k : Fin 36 => (⟨8 * (k.val / 6) + k.val % 6, by omega⟩ : Fin 48)) ?_ ?_ ?_ ?_).symm
  · intro a _ b _ e
    have := congrArg Fin.val e
    simp only at this
    exact Fin.ext (by omega)
  · intro k _; exact Finset.mem_coe.2 (Finset.mem_univ _)
  · intro m _ hm
    by_cases h6 : m.val % 8 < 6
    · refine absurd ⟨(⟨6 * (m.val / 8) + m.val % 8, by omega⟩ : Fin 36), Finset.mem_coe.2 (Finset.mem_univ _), Fin.ext ?_⟩ hm
      show 8 * ((6 * (m.val / 8) + m.val % 8) / 6) + (6 * (m.val / 8) + m.val % 8) % 6 = m.val
      omega
    · rw [dif_neg h6, mul_zero]
  · intro k _
    have e1 : (8 * (k.val / 6) + k.val % 6) / 8 = k.val / 6 := by omega
    have e2 : (8 * (k.val / 6) + k.val % 6) % 8 = k.val % 6 := by omega
    show _ = f ((8 * (k.val / 6) + k.val % 6) / 8) ((8 * (k.val / 6) + k.val % 6) % 8) * _
    rw [dif_pos (show (8 * (k.val / 6) + k.val % 6) % 8 < 6 by omega)]
    refine congrArg₂ (· * ·) (congrArg₂ f e1.symm e2.symm) (congrArg g (Fin.ext ?_))
    show k.val = 6 * ((8 * (k.val / 6) + k.val % 6) / 8) + (8 * (k.val / 6) + k.val % 6) % 8
    omega

/-- The tile is the result at its points, where its weights are the cells' weights spread over 48 rows. -/
theorem tile_at (h : Reads x i ids xi yi x0 x1) (w : Vec Ideal S128x48 .f32) (b : Vec Ideal S1x128 .f32)
    (W : Fin 128 → Fin 36 → EReal) (B : Fin 128 → EReal)
    (hw : ∀ o (m : Fin 48), w (ix2 o m) = if hm : m.val % 8 < 6 then W o ⟨6 * (m.val / 8) + m.val % 8, by omega⟩ else 0)
    (hb : ∀ o, b (ix2 0 o) = B o) (l o : Fin 128) :
    Tile.tile (F := Ideal) ids xi yi x0 x1 w b (ix2 l o) = result x W B (i l) o := by
  unfold Tile.tile
  rw [shapeCast_self, shapeCast_self]
  show matmul (F := Ideal) dot_S48x128_S128x48_S128x128_0_1_1_0_n_n none _ w (constant S128x128 .f32 0x00000000#32) (ix2 l o)
    + broadcastTo S128x128 b _ (ix2 l o) = _
  rw [product_at, spread_row, hb]
  unfold result
  refine congrArg (· + B o) ?_
  refine Eq.trans (Finset.sum_congr rfl fun m _ => ?_) (sum_cells (occ x (i l)) (W o))
  rw [bits_at h, hw]

end Cert.KernelIdeal.TileRead

end
-- ==== Proof.HostRead.lean ====
/- What the host hands to the kernel, read at an index over the extended reals: the positions doubled,
   spread over 128 columns and turned on their side, and the weights of 36 cells spread over 48 columns. -/
module

public import proofs.«01_k».proof.Proof.Gen.KernelIdeal
public import proofs.«01_k».proof.Proof.Cells
public import Idealize.ShloMosaic.Lib.Pipeline.Value
public import Idealize.ShloMosaic.Lib.ValueIdxCore
public import Idealize.ShloMosaic.Lib.Routing.OpsSet

@[expose] public section

set_option maxRecDepth 16384

noncomputable section

namespace Cert.KernelIdeal.HostRead

open Idealize.ShloMosaic Idealize.ShloMosaic.ValueIdx Cert.KernelIdeal Cert.KernelIdeal.Gen Cert.Occupancy

section Terms

variable {F : FTy → Type} [FloatOps F]

/-- The positions, doubled. -/
def twice (x : FVec F S4096x2 .f32) : FVec F S4096x2 .f32 :=
  mulf x (broadcastInDim S4096x2 ![] bcast_S_S4096x2 (constant S_ .f32 0x40000000#32))

/-- The first axis, on 128 columns. -/
def first (x : FVec F S4096x2 .f32) : FVec F S4096x128 .f32 :=
  broadcastInDim S4096x128 ![0, 1] bcast_S4096x1_S4096x128_0_1 (extractStridedSlice S4096x1 ![0, 0] (twice x) slices_S4096x2_S4096x1_0_0)

/-- The second axis, on 128 columns. -/
def second (x : FVec F S4096x2 .f32) : FVec F S4096x128 .f32 :=
  broadcastInDim S4096x128 ![0, 1] bcast_S4096x1_S4096x128_0_1 (extractStridedSlice S4096x1 ![0, 1] (twice x) slices_S4096x2_S4096x1_0_1)

/-- Both axes as rows, and six rows of zeros. -/
def across (x : FVec F S4096x2 .f32) : FVec F S8x4096 .f32 :=
  concatenate S8x4096 0 [⟨S2x4096, transpose S2x4096 [1, 0] (twice x) transposes_S4096x2_S2x4096_1_0⟩,
    ⟨S6x4096, broadcastInDim S6x4096 ![] bcast_S_S6x4096 (constant S_ .f32 0x00000000#32)⟩] concatenates_S2x4096_S6x4096_S8x4096_d0

/-- The columns' numbers as the program writes them, a negative one counted from the end. -/
def columns : IVec S36 32 :=
  select (cmpi .slt (fun i => lit0 (S36.rowMajor i)) (broadcastInDim S36 ![] bcast_S_S36 (constantI S_ 32 0#32)))
    (addi (fun i => lit0 (S36.rowMajor i)) (broadcastInDim S36 ![] bcast_S_S36 (constantI S_ 32 48#32)))
    (fun i => lit0 (S36.rowMajor i))

/-- The weights in the columns numbered so, zeros elsewhere. -/
def spread (w : FVec F S128x36 .f32) : FVec F S128x48 .f32 :=
  Host.scatter scatter_S128x48_S36x1_S128x36_0_1_1_1 (fun _ b => b)
    (broadcastInDim S128x48 ![] bcast_S_S128x48 (constant S_ .f32 0x00000000#32)) (broadcastInDim S36x1 ![0] bcast_S36_S36x1_0 columns) w

/-- The offset as one row. -/
def offset (b : FVec F S128 .f32) : FVec F S1x128 .f32 := shapeCast S1x128 b shapeCasts_S128_S1x128

end Terms

/-- The program's word for two. -/
theorem ofBits_two : Ideal.ofBits .f32 0x40000000#32 = 2 := by
  simp [Ideal.ofBits, Ideal.ieee, -EReal.coe_mul]; norm_num; rfl

variable (x : FVec Ideal S4096x2 .f32)

/-- The doubled positions at an index. -/
theorem twice_at (k : S4096x2.Idx) : twice x k = x k * 2 := by
  show x k * Ideal.ofBits .f32 0x40000000#32 = _
  rw [ofBits_two]

/-- The first axis's array at an index: the position along it, doubled. -/
theorem first_at (j : Fin 4096) (l : Fin 128) : first x (ix2 j l) = x (ix2 j 0) * 2 := by
  unfold first
  rw [broadcastInDim_apply _ _ _ _ (ix2 j 0) fun a => match a with
      | ⟨0, _⟩ => rfl
      | ⟨1, _⟩ => rfl,
    extractStridedSlice_apply _ _ _ _ (ix2 j 0) fun a => match a with
      | ⟨0, _⟩ => (Nat.zero_add _).symm
      | ⟨1, _⟩ => rfl, twice_at]

/-- The second axis's array at an index: the position along it, doubled. -/
theorem second_at (j : Fin 4096) (l : Fin 128) : second x (ix2 j l) = x (ix2 j 1) * 2 := by
  unfold second
  rw [broadcastInDim_apply _ _ _ _ (ix2 j 0) fun a => match a with
      | ⟨0, _⟩ => rfl
      | ⟨1, _⟩ => rfl,
    extractStridedSlice_apply _ _ _ _ (ix2 j 1) fun a => match a with
      | ⟨0, _⟩ => (Nat.zero_add _).symm
      | ⟨1, _⟩ => rfl, twice_at]

/-- The first two rows are the axes. -/
theorem across_at (a : Fin 2) (j : Fin 4096) : across x (ix2 (a.castLE (by decide)) j) = x (ix2 j a) * 2 := by
  unfold across
  rw [concatenate_pair_apply_left (t := S8x4096) (s₁ := S2x4096) (s₂ := S6x4096) 0 _ _ _ _ rfl (ix2 a j) fun b => match b with
      | ⟨0, _⟩ => rfl
      | ⟨1, _⟩ => rfl,
    transpose_apply _ _ _ _ (ix2 j a) fun b => match b with
      | ⟨0, _⟩ => rfl
      | ⟨1, _⟩ => rfl, twice_at]

/-- The offset's row at an index. -/
theorem offset_at (b : FVec Ideal S128 .f32) (o : Fin 128) : offset b (ix2 0 o) = b (ix1 o) := by
  unfold offset
  refine (shapeCast_addUnit_apply ![128] b shapeCasts_S128_S1x128 (ix2 0 o)).trans (congrArg b (funext fun a => ?_))
  match a with
  | ⟨0, _⟩ => rfl

/-- The table's words: cell `k`'s column is `8 (k / 6) + k % 6`. -/
theorem lit_at : ∀ k : Fin 36, lit0 k = BitVec.ofNat 32 (8 * (k.val / 6) + k.val % 6) := by decide

/-- None of them is negative. -/
theorem columns_at (k : Fin 36) : columns (ix1 k) = BitVec.ofNat 32 (8 * (k.val / 6) + k.val % 6) := by
  have e : S36.rowMajor (ix1 k) = k := Fin.ext (Shape.rowMajor_val_one _)
  show Scalar.select (IntOp.cmpi .slt (lit0 (S36.rowMajor (ix1 k))) 0#32) _ (lit0 (S36.rowMajor (ix1 k))) = _
  have hk := k.isLt
  rw [e, lit_at, Routing.wrap_of_lt]
  rw [BitVec.toNat_ofNat]
  omega

/-- Where a weight lands: in its row, in the column that its number gives. -/
theorem lands (idx : IVec S36x1 32) (o o' : Fin 128) (k : Fin 36) (m : Fin 48) :
    scatter_S128x48_S36x1_S128x36_0_1_1_1.resultIdx? (ix2 o k) idx = some (ix2 o' m)
      ↔ o = o' ∧ (idx (ix2 k 0)).toInt = (m.val : Int) := by
  have w0 : scatter_S128x48_S36x1_S128x36_0_1_1_1.window (ix2 o k) 0 = o.val := rfl
  have w1 : scatter_S128x48_S36x1_S128x36_0_1_1_1.window (ix2 o k) 1 = 0 := rfl
  have s0 : scatter_S128x48_S36x1_S128x36_0_1_1_1.start (ix2 o k) idx 0 = 0 := rfl
  have s1 : scatter_S128x48_S36x1_S128x36_0_1_1_1.start (ix2 o k) idx 1 = (idx (ix2 k 0)).toInt := by
    show (idx _).toInt = _
    refine congrArg (fun q => (idx q).toInt) (funext fun b => ?_)
    match b with
    | ⟨0, _⟩ => rfl
    | ⟨1, _⟩ => rfl
  rw [Routing.resultIdx?_ix2, w0, w1, s0, s1]
  constructor
  · rintro ⟨h, h'⟩; exact ⟨Fin.ext (by omega), by omega⟩
  · rintro ⟨h, h'⟩; subst h; exact ⟨by omega, by omega⟩

/-- The weights over 48 columns: six of every eight columns are the cells', the others zeros. -/
theorem spread_at (w : FVec Ideal S128x36 .f32) (o : Fin 128) (m : Fin 48) :
    spread w (ix2 o m) = if hm : m.val % 8 < 6 then w (ix2 o ⟨6 * (m.val / 8) + m.val % 8, by omega⟩) else 0 := by
  have hi : ∀ k : Fin 36, (broadcastInDim S36x1 ![0] bcast_S36_S36x1_0 columns (ix2 k 0)).toInt = ((8 * (k.val / 6) + k.val % 6 : ℕ) : Int) := fun k => by
    rw [broadcastInDim_apply _ _ _ _ (ix1 k) fun a => match a with
      | ⟨0, _⟩ => rfl, columns_at, WordCmp.toInt_ofNat_of_lt (by omega)]
  have hl : ∀ q : S128x36.Idx, scatter_S128x48_S36x1_S128x36_0_1_1_1.resultIdx? q
      (broadcastInDim S36x1 ![0] bcast_S36_S36x1_0 columns) = some (ix2 o m) ↔ ∃ k : Fin 36, q = ix2 o k ∧ 8 * (k.val / 6) + k.val % 6 = m.val := fun q => by
    obtain ⟨o', k', rfl⟩ : ∃ (o' : Fin 128) (k' : Fin 36), q = ix2 o' k' := ⟨q 0, q 1, funext fun a => match a with
      | ⟨0, _⟩ => rfl
      | ⟨1, _⟩ => rfl⟩
    constructor
    · intro h
      rw [lands, hi] at h
      exact ⟨k', congrArg (fun p => ix2 p k') h.1, by exact_mod_cast h.2⟩
    · rintro ⟨k, e, hk⟩
      rw [e, lands, hi]
      exact ⟨rfl, by exact_mod_cast hk⟩
  unfold spread
  by_cases hm : m.val % 8 < 6
  · rw [dif_pos hm]
    refine Routing.scatter_set_hit _ _ _ _ _ _ (fun q hq => ?_) (ix2 o ⟨6 * (m.val / 8) + m.val % 8, by omega⟩) ?_
    · obtain ⟨k, e, hk⟩ := (hl q).1 hq
      rw [e]
      exact congrArg (fun p => w (ix2 o p)) (Fin.ext (by show k.val = 6 * (m.val / 8) + m.val % 8; omega))
    · refine (hl _).2 ⟨_, rfl, ?_⟩
      show 8 * ((6 * (m.val / 8) + m.val % 8) / 6) + (6 * (m.val / 8) + m.val % 8) % 6 = m.val
      omega
  · rw [dif_neg hm, Routing.scatter_set_miss _ _ _ _ _ fun q hq => ?_]
    · show Ideal.ofBits .f32 0x00000000#32 = 0
      exact ofBits_zero
    · obtain ⟨k, -, hk⟩ := (hl q).1 hq
      omega

end Cert.KernelIdeal.HostRead

end
-- ==== Proof.Door.lean ====
/- What the arrays hold when the launch begins. -/
module

public import proofs.«01_k».proof.Proof.Gen.KernelIdeal.Frame
public import proofs.«01_k».proof.Proof.HostRead
public import Idealize.ShloMosaic.Lib.Claim

@[expose] public section

set_option maxRecDepth 16384

noncomputable section

namespace Cert.KernelIdeal.Door

open Idealize.ShloMosaic
open Idealize.ShloMosaic.TcCoe Idealize.SL.Sem Cert.KernelIdeal Cert.KernelIdeal.Gen

variable {F : FTy → Type} [FloatOps F] (m : (a : Loc nD τ sig) → Buf (Elt F) a) (c : Dev nD)

/-- The first axis's array. -/
theorem door_first : V m c main_v3 = HostRead.first (m ((c : Thread nD τ).loc main_arg2)) := by
  show StableHlo.after hostOps0 _ (Proc.devRef .tc main_v3) = _
  after_results
  rfl

/-- The second axis's array. -/
theorem door_second : V m c main_v5 = HostRead.second (m ((c : Thread nD τ).loc main_arg2)) := by
  show StableHlo.after hostOps0 _ (Proc.devRef .tc main_v5) = _
  after_results
  rfl

/-- Both axes as rows. -/
theorem door_across : V m c main_v8 = HostRead.across (m ((c : Thread nD τ).loc main_arg2)) := by
  show StableHlo.after hostOps0 _ (Proc.devRef .tc main_v8) = _
  after_results
  rfl

/-- The spread weights. -/
theorem door_spread : V m c main_v17 = HostRead.spread (m ((c : Thread nD τ).loc main_arg3)) := by
  show StableHlo.after hostOps0 _ (Proc.devRef .tc main_v17) = _
  after_results
  rfl

/-- The offset's row. -/
theorem door_offset : V m c main_v9 = HostRead.offset (m ((c : Thread nD τ).loc main_arg4)) := by
  show StableHlo.after hostOps0 _ (Proc.devRef .tc main_v9) = _
  after_results
  rfl

end Cert.KernelIdeal.Door

end
-- ==== Proof.Blocks.lean ====
/- What a grid step's blocks hold of the program's arguments. -/
module

public import proofs.«01_k».proof.Proof.Gen.KernelIdeal.Frame
public import proofs.«01_k».proof.Proof.Door
public import Idealize.ShloMosaic.Lib.Pipeline.ValueKit

@[expose] public section

set_option maxRecDepth 16384

noncomputable section

namespace Cert.KernelIdeal.Blocks

open Idealize.ShloMosaic hiding ix1 ix2
open Idealize.ShloMosaic.ValueIdx Idealize.ShloMosaic.TcCoe Idealize.SL.Sem Cert.KernelIdeal Cert.KernelIdeal.Gen Cert.KernelIdeal.Door

/-- The blocks' places: the whole arrays, the step's columns and the step's rows. -/
theorem places : ∀ t : Fin cfg0.N, win0_0.index t = ![0, 0] ∧ win0_1.index t = ![0, 0] ∧ win0_2.index t = ![0, t.val]
    ∧ win0_3.index t = ![0, 0] ∧ win0_4.index t = ![0, 0] ∧ win0_5.index t = ![t.val, 0] := by
  decide +kernel

/-- A step's coordinate is its number. -/
theorem coord : ∀ t : Fin cfg0.N, ((grid0.coords t) 0).val = t.val := by decide +kernel

section Arguments

variable (m : (a : Loc nD τ sig) → Buf (Elt Ideal) a) (c : Dev nD)

/-- The positions as the program is given them. -/
abbrev positions : FVec Ideal S4096x2 .f32 := m ((c : Thread nD τ).loc main_arg2)

/-- The weights as the program is given them. -/
abbrev weights : FVec Ideal S128x36 .f32 := m ((c : Thread nD τ).loc main_arg3)

/-- The offset as the program is given it. -/
abbrev offsets : FVec Ideal S128 .f32 := m ((c : Thread nD τ).loc main_arg4)

end Arguments

section Reads

variable (m : (a : Loc nD τ sig) → Buf (Elt Ideal) a) (c : Dev nD) (t : Fin cfg0.N)

/-- The step's block of the first axis's array is the array. -/
theorem first_block (j : Fin 4096) (l : Fin 128) :
    (iblk m c 0 t : Vec Ideal S4096x128 .f32) (ix2 j l) = positions m c (ix2 j 0) * 2 := by
  refine Eq.trans (b := V m c main_v3 (ix2 j l)) ?_ ?_
  · blk_ext [iblk, places t]
  · rw [door_first]; exact HostRead.first_at _ j l

/-- The step's block of the second axis's array is the array. -/
theorem second_block (j : Fin 4096) (l : Fin 128) :
    (iblk m c 1 t : Vec Ideal S4096x128 .f32) (ix2 j l) = positions m c (ix2 j 1) * 2 := by
  refine Eq.trans (b := V m c main_v5 (ix2 j l)) ?_ ?_
  · blk_ext [iblk, places t]
  · rw [door_second]; exact HostRead.second_at _ j l

/-- A step's number keeps its columns within the 4096. -/
theorem column_lt (n : Fin 1024) : 1024 * t.val + n.val < 4096 := by
  have := t.isLt; have : cfg0.N = 4 := rfl; omega

/-- The step's block of the rows of positions holds the step's 1024 points. -/
theorem across_block (a : Fin 2) (n : Fin 1024) : (iblk m c 2 t : Vec Ideal S8x1024 .f32) (ix2 (a.castLE (by decide)) n) =
      positions m c (ix2 ⟨1024 * t.val + n.val, column_lt t n⟩ a) * 2 := by
  refine Eq.trans (b := V m c main_v8 (ix2 (a.castLE (by decide)) ⟨1024 * t.val + n.val, column_lt t n⟩)) ?_ ?_
  · blk_ext [iblk, places t]
    show t.val * 1024 + n.val = 1024 * t.val + n.val
    omega
  · rw [door_across]; exact HostRead.across_at _ a _

/-- The step's block of the weights is the spread array. -/
theorem spread_block (o : Fin 128) (k : Fin 48) : (iblk m c 3 t : Vec Ideal S128x48 .f32) (ix2 o k) =
      if hm : k.val % 8 < 6 then weights m c (ix2 o ⟨6 * (k.val / 8) + k.val % 8, by omega⟩) else 0 := by
  refine Eq.trans (b := V m c main_v17 (ix2 o k)) ?_ ?_
  · blk_ext [iblk, places t]
  · rw [door_spread]; exact HostRead.spread_at _ o k

/-- The step's block of the offset is its row. -/
theorem offset_block (o : Fin 128) : (iblk m c 4 t : Vec Ideal S1x128 .f32) (ix2 0 o) = offsets m c (ix1 o) := by
  refine Eq.trans (b := V m c main_v9 (ix2 0 o)) ?_ ?_
  · blk_ext [iblk, places t]
  · rw [door_offset]; exact HostRead.offset_at _ o

end Reads

end Cert.KernelIdeal.Blocks

end
-- ==== Proof.Fold.lean ====
/- The printed body of one grid step is the fold of `Tile`, once for each of its eight tiles. -/
module

public import proofs.«01_k».proof.Proof.Gen.KernelIdeal.Frame
public import proofs.«01_k».proof.Proof.Tile

@[expose] public section

set_option maxRecDepth 65536

noncomputable section

namespace Cert.KernelIdeal.Fold

open Idealize.ShloMosaic Idealize.SL.Sem Cert.KernelIdeal.Gen Cert.KernelIdeal.Tile

variable {F : FTy → Type} [FloatOps F]

/-- The numbers of the points of a step's tile `k`. -/
def ids (i : grid0.Coords) (k : Fin 8) : IVec S1x128 32 :=
  addi (broadcast S1x128 (Scalar.muli (Scalar.addi (Scalar.muli (BitVec.ofNat 32 (i 0).val) 8#32) (BitVec.ofNat 32 k.val)) 128#32))
    (iota .tc S1x128 32 [1] iota_S1x128_d1_w32)

/-- Tile `k`'s 128 columns lie in the block, in each of its two rows of positions. -/
theorem cols_inb (a : Fin 2) (k : Fin 8) :
    ∀ d, (![a.val, 128 * k.val] : Fin 2 → Nat) d + S1x128.size d ≤ S8x1024.size d := by
  revert a k; decide

/-- Tile `k`'s positions along axis `a`. -/
def pos (x2 : Vec F S8x1024 .f32) (a : Fin 2) (k : Fin 8) : Vec F S1x128 .f32 :=
  View.ld x2 (Rect.unit (s := S8x1024) ![a.val, 128 * k.val] S1x128.size (cols_inb a k))

/-- What the step stores for tile `k`. -/
def out (i : grid0.Coords) (x0 x1 : Vec F S4096x128 .f32) (x2 : Vec F S8x1024 .f32) (x3 : Vec F S128x48 .f32)
    (x4 : Vec F S1x128 .f32) (k : Fin 8) : FVec F S128x128 .f32 :=
  tile (ids i k) (pos x2 0 k) (pos x2 1 k) x0 x1 (View.ld x3 r0_80) (View.ld x4 r0_81)

/-- Tile `k`'s 128 rows lie in the block of results. -/
theorem rows_inb (k : Fin 8) : ∀ d, (![128 * k.val, 0] : Fin 2 → Nat) d + S128x128.size d ≤ S1024x128.size d := by
  revert k; decide

/-- The rows of tile `k` in the block of results. -/
abbrev rect (k : Fin 8) : Rect S1024x128 := Rect.unit (s := S1024x128) ![128 * k.val, 0] S128x128.size (rows_inb k)

/-- The printed body stores `out`, tile by tile, the last tile last. -/
theorem out_eq (i : grid0.Coords) (x0 x1 : Vec F S4096x128 .f32) (x2 : Vec F S8x1024 .f32) (x3 : Vec F S128x48 .f32)
    (x4 : Vec F S1x128 .f32) : out0_5 i x0 x1 x2 x3 x4 =
      View.canon (List.ofFn fun k : Fin 8 => ⟨rect (Fin.rev k), out i x0 x1 x2 x3 x4 (Fin.rev k)⟩) := by
  rfl

end Cert.KernelIdeal.Fold

end
-- ==== Proof.Final.lean ====
/- The array the kernel leaves, over the extended reals: the result of `Cells.lean` at every point and
   every output. -/
module

public import proofs.«01_k».proof.Proof.TileRead
public import proofs.«01_k».proof.Proof.Blocks
public import proofs.«01_k».proof.Proof.Fold

@[expose] public section

set_option maxRecDepth 16384

noncomputable section

namespace Cert.KernelIdeal.Final

open Idealize.ShloMosaic hiding ix1 ix2
open Idealize.ShloMosaic.ValueIdx Idealize.ShloMosaic.TcCoe Idealize.SL.Sem Cert.KernelIdeal Cert.KernelIdeal.Gen Cert.KernelIdeal.Blocks
open Cert.Occupancy

variable (m : (a : Loc nD τ sig) → Buf (Elt Ideal) a) (c : Dev nD) (t : Fin cfg0.N)

/-- The points, by point and axis. -/
abbrev points : Fin 4096 → Fin 2 → EReal := fun i a => positions m c (ix2 i a)

/-- What the program should leave: at point `i` and output `o` the weighted sum of the occupied cells. -/
def wanted : FVec Ideal S4096x128 .f32 := fun y =>
  result (points m c) (fun o k => weights m c (ix2 o k)) (fun o => offsets m c (ix1 o)) (y 0) (y 1)

/-- Point `l` of tile `k`, among the points of a step. -/
def lane (k : Fin 8) (l : Fin 128) : Fin 1024 := ⟨128 * k.val + l.val, by omega⟩

/-- Point `l` of the step's tile `k`, among all points. -/
def point (k : Fin 8) (l : Fin 128) : Fin 4096 := ⟨1024 * t.val + (lane k l).val, column_lt t (lane k l)⟩

/-- The number the tile gives to its point is the point's number. -/
theorem ids_at (k : Fin 8) (l : Fin 128) : Fold.ids (grid0.coords t) k (ix2 0 l) = BitVec.ofNat 32 (point t k l).val := by
  show (BitVec.ofNat 32 ((grid0.coords t) 0).val * 8#32 + BitVec.ofNat 32 k.val) * 128#32
    + iota .tc S1x128 32 [1] iota_S1x128_d1_w32 (ix2 0 l) = BitVec.ofNat 32 (1024 * t.val + (128 * k.val + l.val))
  rw [iota_single_apply, coord]
  show (BitVec.ofNat 32 t.val * BitVec.ofNat 32 8 + BitVec.ofNat 32 k.val) * BitVec.ofNat 32 128 + BitVec.ofNat 32 l.val = _
  rw [← BitVec.ofNat_mul, ← BitVec.ofNat_add, ← BitVec.ofNat_mul, ← BitVec.ofNat_add]
  congr 1
  omega

/-- The positions the tile reads are its points' positions, doubled. -/
theorem pos_at (a : Fin 2) (k : Fin 8) (l : Fin 128) :
    Fold.pos (F := Ideal) (iblk m c 2 t) a k (ix2 0 l) = points m c (point t k l) a * 2 := by
  refine Eq.trans ?_ (across_block m c t a (lane k l))
  exact View.ld_unit_apply_of _ _ _ _ _ _ fun d => match d with
    | ⟨0, _⟩ => rfl
    | ⟨1, _⟩ => rfl

/-- A step's tile reads all points, and its own. -/
theorem reads (k : Fin 8) : TileRead.Reads (points m c) (point t k) (Fold.ids (grid0.coords t) k)
    (Fold.pos (F := Ideal) (iblk m c 2 t) 0 k) (Fold.pos (F := Ideal) (iblk m c 2 t) 1 k) (iblk m c 0 t) (iblk m c 1 t) where
  all0 := first_block m c t
  all1 := second_block m c t
  own0 := pos_at m c t 0 k
  own1 := pos_at m c t 1 k
  ids := ids_at t k

/-- What a step stores for its tile `k`. -/
theorem out_at (k : Fin 8) (l o : Fin 128) :
    Fold.out (F := Ideal) (grid0.coords t) (iblk m c 0 t) (iblk m c 1 t) (iblk m c 2 t) (iblk m c 3 t) (iblk m c 4 t) k (ix2 l o)
      = wanted m c (ix2 (point t k l) o) :=
  TileRead.tile_at (reads m c t k) _ _ (fun o k => weights m c (ix2 o k)) (fun o => offsets m c (ix1 o))
    (fun o n => (View.ld_unit_apply_of _ _ _ _ _ (ix2 o n) fun d => match d with
      | ⟨0, _⟩ => (Nat.zero_add _).symm
      | ⟨1, _⟩ => (Nat.zero_add _).symm).trans (spread_block m c t o n))
    (fun o => (View.ld_unit_apply_of _ _ _ _ _ (ix2 0 o) fun d => match d with
      | ⟨0, _⟩ => (Nat.zero_add _).symm
      | ⟨1, _⟩ => (Nat.zero_add _).symm).trans (offset_block m c t o)) l o

/-- What a step leaves in its block of results. -/
theorem step_at (n : Fin 1024) (o : Fin 128) :
    out0_5 (F := Ideal) (grid0.coords t) (iblk m c 0 t) (iblk m c 1 t) (iblk m c 2 t) (iblk m c 3 t) (iblk m c 4 t) (ix2 n o)
      = wanted m c (ix2 ⟨1024 * t.val + n.val, column_lt t n⟩ o) := by
  rw [Fold.out_eq]
  refine View.canon_ofFn_unit_eq_of_forall (S := S1024x128) (fun k => ![128 * (Fin.rev k).val, 0]) S128x128.size (fun k => Fold.rows_inb (Fin.rev k)) _
    (ix2 n o) _ ⟨Fin.rev ⟨n.val / 128, by omega⟩, fun d => ?_⟩ fun k x hx => ?_
  · rw [Fin.rev_rev]
    match d with
    | ⟨0, _⟩ =>
      show 128 * (n.val / 128) ≤ n.val ∧ n.val < 128 * (n.val / 128) + 128
      omega
    | ⟨1, _⟩ =>
      show 0 ≤ o.val ∧ o.val < 0 + 128
      omega
  · obtain ⟨l, p, rfl⟩ : ∃ (l p : Fin 128), x = ix2 l p := ⟨x 0, x 1, ValueIdx.eq_ix2 x⟩
    have h0 : n.val = 128 * (Fin.rev k).val + l.val := hx 0
    have h1 : o.val = 0 + p.val := hx 1
    refine (out_at m c t (Fin.rev k) l p).trans (congrArg (wanted m c) (congrArg₂ ix2 (Fin.ext ?_) (Fin.ext ?_)))
    · show 1024 * t.val + (128 * (Fin.rev k).val + l.val) = 1024 * t.val + n.val
      omega
    · omega

/-- What the kernel leaves in its result. -/
theorem final : (dats m 0 c).arrAt 5 cfg0.N = wanted m c := by
  refine (dats m 0 c).arrAt_eq_of_covers 5 _ (by decide +kernel) fun t hf y => ?_
  blk_simp
  rw [after0_5]
  obtain ⟨n, o, rfl⟩ : ∃ (n : Fin 1024) (o : Fin 128), y = ix2 n o := ⟨y 0, y 1, ValueIdx.eq_ix2 y⟩
  refine (step_at m c t n o).trans (congrArg (wanted m c) ?_)
  funext a
  match a with
  | ⟨0, _⟩ =>
    refine Fin.ext ?_
    blk_simp [places t]
    show 1024 * t.val + n.val = t.val * 1024 + n.val
    omega
  | ⟨1, _⟩ =>
    refine Fin.ext ?_
    blk_simp [places t]

end Cert.KernelIdeal.Final

end
-- ==== Proof.lean ====
/- The certificate: the kernel and the reference run and leave their arguments as they were, and over
   the extended reals, from the same arguments, they end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Reference
public import proofs.«01_k».proof.Proof.Final
public import Idealize.ShloMosaic.Adequacy
public import Idealize.ShloMosaic.Init

@[expose] public section

set_option maxRecDepth 16384

noncomputable section

namespace Cert.Proof

open Idealize.ShloMosaic Idealize.SL.Sem

/-- The reference runs, keeps its arguments and has no counter to leave at anything but zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments the reference's value is the array that the kernel leaves. -/
theorem same (m : (a : Loc Cert.KernelIdeal.nD Cert.KernelIdeal.τ Cert.KernelIdeal.sig) → Buf (Elt Ideal) a) (c : Dev 1) :
    Cert.ReferenceIdeal.Read.val_main_v65 (F := Ideal) (Cert.KernelIdeal.Blocks.positions m c)
      (Cert.KernelIdeal.Blocks.weights m c) (Cert.KernelIdeal.Blocks.offsets m c) = Cert.KernelIdeal.Final.wanted m c := by
  funext y
  obtain ⟨i, o, rfl⟩ : ∃ (i : Fin 4096) (o : Fin 128), y = ValueIdx.ix2 i o := ⟨y 0, y 1, ValueIdx.eq_ix2 y⟩
  exact Cert.Occupancy.Ref.result_at _ i _ _ o

/-- The kernel and the reference, over the extended reals, end with equal results. -/
theorem equal_results : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Final.wanted m c, ?_, ?_⟩
  · exact (θ_run Cert.KernelIdeal.defs _ _).mono
      (fun r h c => ⟨(h c).1.trans (Cert.KernelIdeal.Final.final m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v65_eq, (hagree c).2.2.1, (hagree c).2.2.2.1, (hagree c).2.2.2.2]
    exact same m c

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, equal_results⟩

end Cert.Proof

end
